-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![16384, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S2x1024x1152 : Shape := ⟨3, ![2, 1024, 1152]⟩
abbrev S2x1024x1024 : Shape := ⟨3, ![2, 1024, 1024]⟩
abbrev S1024x1024 : Shape := ⟨2, ![1024, 1024]⟩
abbrev S7 : Shape := ⟨1, ![7]⟩
abbrev S_ : Shape := ⟨0, ![]⟩
abbrev S2 : Shape := ⟨1, ![2]⟩
abbrev S1 : Shape := ⟨1, ![1]⟩
abbrev S1x1024x1024 : Shape := ⟨3, ![1, 1024, 1024]⟩
abbrev S1024x2 : Shape := ⟨2, ![1024, 2]⟩
abbrev S1x1024x2 : Shape := ⟨3, ![1, 1024, 2]⟩
abbrev S1x1024x1152 : Shape := ⟨3, ![1, 1024, 1152]⟩
abbrev S1024x1152 : Shape := ⟨2, ![1024, 1152]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S8x1024x1024, .f32⟩
  | .hbm, ⟨4, _⟩ => ⟨S2048x1024, .f32⟩
  | .local _ .vmem, ⟨0, _⟩ => ⟨S1024x64, .f32⟩
  | .local _ .vmem, ⟨1, _⟩ => ⟨S2048x2, .i32⟩
  | .local _ .vmem, ⟨2, _⟩ => ⟨S2048x1024, .f32⟩
  | .local _ .vmem, ⟨3, _⟩ => ⟨S2x1024x1152, .bf16⟩
  | .local _ .vmem, ⟨4, _⟩ => ⟨S2x1024x1152, .bf16⟩
  | .local _ .vmem, ⟨5, _⟩ => ⟨S2x1024x1024, .bf16⟩
  | .local _ .vmem, ⟨6, _⟩ => ⟨S2x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_54 : BitVec 32 := 0#32
  let c8_i32_55 : BitVec 32 := 8#32
  let v60 : BitVec 32 := Scalar.addi c0_i32_54 c8_i32_55
  let c1_i32_56 : BitVec 32 := 1#32
  ⟨c0_i32_54, v60, c1_i32_56⟩
def k0_cond1 (k0_t1 : Fin k0_t1_loop.trips) : BitVec 1 :=
  let c0_i32_54 : BitVec 32 := 0#32
  let c1_i32_56 : BitVec 32 := 1#32
  let arg27 : BitVec 32 := Scf.iv c0_i32_54 c1_i32_56 k0_t1
  let c0_i32_98 : BitVec 32 := 0#32
  let v91 : BitVec 1 := Scalar.cmpi .sgt arg27 c0_i32_98
  let v92 : BitVec 32 := Scalar.extui v91
  let c0_i32_99 : BitVec 32 := 0#32
  let v93 : BitVec 1 := Scalar.cmpi .ne v92 c0_i32_99
  v93

def k0_off1 (k0_t1 : Fin k0_t1_loop.trips) : Fin 1 → Nat :=
  let c0_i32_54 : BitVec 32 := 0#32
  let c1_i32_56 : BitVec 32 := 1#32
  let arg27 : BitVec 32 := Scf.iv c0_i32_54 c1_i32_56 k0_t1
  let c1_i32_97 : BitVec 32 := 1#32
  let v90 : BitVec 32 := Scalar.subi arg27 c1_i32_97
  ![v90.toNat]
def k0_off2 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let c0_i32_147 : BitVec 32 := 0#32
  let c0_i32_148 : BitVec 32 := 0#32
  ![v89.toNat, 0, 0]
def k0_off3 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c1_i32_94 : BitVec 32 := 1#32
  let v87 : BitVec 32 := Scalar.addi arg27 c1_i32_94
  let c2_i32_95 : BitVec 32 := 2#32
  let v88 : BitVec 32 := Scalar.remsi v87 c2_i32_95
  let c0_i32_149 : BitVec 32 := 0#32
  let c0_i32_150 : BitVec 32 := 0#32
  ![v88.toNat, 0, 0]
def k0_dev3 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_145 : BitVec 32 := 1#32
  let v191 : BitVec 32 := Scalar.muli v7 c1_i32_145
  let v192 : BitVec 32 := Scalar.addi c0_i32_146 v191
  v192.toNat
def k0_dev4 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_151 : BitVec 32 := 1#32
  let v201 : BitVec 32 := Scalar.muli v5 c1_i32_151
  let v202 : BitVec 32 := Scalar.addi c0_i32_152 v201
  v202.toNat
def k0_off4 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let c0_i32_181 : BitVec 32 := 0#32
  let c0_i32_182 : BitVec 32 := 0#32
  ![v89.toNat, 0, 0]
def k0_off5 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c1_i32_94 : BitVec 32 := 1#32
  let v87 : BitVec 32 := Scalar.addi arg27 c1_i32_94
  let c2_i32_95 : BitVec 32 := 2#32
  let v88 : BitVec 32 := Scalar.remsi v87 c2_i32_95
  let c0_i32_183 : BitVec 32 := 0#32
  let c0_i32_184 : BitVec 32 := 0#32
  ![v88.toNat, 0, 0]
def k0_dev5 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_179 : BitVec 32 := 1#32
  let v239 : BitVec 32 := Scalar.muli v7 c1_i32_179
  let v240 : BitVec 32 := Scalar.addi c0_i32_180 v239
  v240.toNat
def k0_dev6 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_185 : BitVec 32 := 1#32
  let v249 : BitVec 32 := Scalar.muli v5 c1_i32_185
  let v250 : BitVec 32 := Scalar.addi c0_i32_186 v249
  v250.toNat
def k0_off6 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let v94 : Index := Scalar.indexCast v89
  let c0_100 : Index := 0#32
  let c0_101 : Index := 0#32
  ![v94.toNat, 0, 0]
def k0_off7 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let v97 : Index := Scalar.indexCast v89
  let c0_102 : Index := 0#32
  let c1024_103 : Index := 1024#32
  ![v97.toNat, 0, 1024]
def k0_off8 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let v101 : Index := Scalar.indexCast v89
  let c0_104 : Index := 0#32
  let c1025 : Index := 1025#32
  ![v101.toNat, 0, 1025]
@[reducible] def k0_t2_loop : Scf.Loop 32 :=
  let c0_i32_137 : BitVec 32 := 0#32
  let c8_i32_138 : BitVec 32 := 8#32
  let v184 : BitVec 32 := Scalar.addi c0_i32_137 c8_i32_138
  let c1_i32_139 : BitVec 32 := 1#32
  ⟨c0_i32_137, v184, c1_i32_139⟩
def k0_cond2 (k0_t2 : Fin k0_t2_loop.trips) : BitVec 1 :=
  let c0_i32_137 : BitVec 32 := 0#32
  let c1_i32_139 : BitVec 32 := 1#32
  let arg28 : BitVec 32 := Scf.iv c0_i32_137 c1_i32_139 k0_t2
  let c1_i32_146 : BitVec 32 := 1#32
  let v192 : BitVec 32 := Scalar.addi arg28 c1_i32_146
  let c8_i32_147 : BitVec 32 := 8#32
  let v193 : BitVec 1 := Scalar.cmpi .slt v192 c8_i32_147
  let v194 : BitVec 32 := Scalar.extui v193
  let c0_i32_148 : BitVec 32 := 0#32
  let v195 : BitVec 1 := Scalar.cmpi .ne v194 c0_i32_148
  v195

def k0_off9 (k0_t2 : Fin k0_t2_loop.trips) : Fin 1 → Nat :=
  let c0_i32_137 : BitVec 32 := 0#32
  let c1_i32_139 : BitVec 32 := 1#32
  let arg28 : BitVec 32 := Scf.iv c0_i32_137 c1_i32_139 k0_t2
  let c1_i32_146 : BitVec 32 := 1#32
  let v192 : BitVec 32 := Scalar.addi arg28 c1_i32_146
  let c2_i32_171 : BitVec 32 := 2#32
  let v247 : BitVec 32 := Scalar.remsi v192 c2_i32_171
  ![v247.toNat]
def k0_off10 (k0_t2 : Fin k0_t2_loop.trips) : Fin 3 → Nat :=
  let c0_i32_137 : BitVec 32 := 0#32
  let c1_i32_139 : BitVec 32 := 1#32
  let arg28 : BitVec 32 := Scf.iv c0_i32_137 c1_i32_139 k0_t2
  let c1_i32_146 : BitVec 32 := 1#32
  let v192 : BitVec 32 := Scalar.addi arg28 c1_i32_146
  let c2_i32_170 : BitVec 32 := 2#32
  let v246 : BitVec 32 := Scalar.remsi v192 c2_i32_170
  let c0_i32_172 : BitVec 32 := 0#32
  let c0_i32_173 : BitVec 32 := 0#32
  ![v246.toNat, 0, 0]
def k0_off11 (k0_t2 : Fin k0_t2_loop.trips) : Fin 3 → Nat :=
  let c0_i32_137 : BitVec 32 := 0#32
  let c1_i32_139 : BitVec 32 := 1#32
  let arg28 : BitVec 32 := Scf.iv c0_i32_137 c1_i32_139 k0_t2
  let c1_i32_146 : BitVec 32 := 1#32
  let v192 : BitVec 32 := Scalar.addi arg28 c1_i32_146
  let c0_i32_174 : BitVec 32 := 0#32
  let c0_i32_175 : BitVec 32 := 0#32
  ![v192.toNat, 0, 0]
def k0_off12 (k0_t2 : Fin k0_t2_loop.trips) : Fin 1 → Nat :=
  let c0_i32_137 : BitVec 32 := 0#32
  let c1_i32_139 : BitVec 32 := 1#32
  let arg28 : BitVec 32 := Scf.iv c0_i32_137 c1_i32_139 k0_t2
  let c2_i32_145 : BitVec 32 := 2#32
  let v191 : BitVec 32 := Scalar.remsi arg28 c2_i32_145
  ![v191.toNat]
def k0_off13 (k0_t2 : Fin k0_t2_loop.trips) : Fin 3 → Nat :=
  let c0_i32_137 : BitVec 32 := 0#32
  let c1_i32_139 : BitVec 32 := 1#32
  let arg28 : BitVec 32 := Scf.iv c0_i32_137 c1_i32_139 k0_t2
  let c2_i32_145 : BitVec 32 := 2#32
  let v191 : BitVec 32 := Scalar.remsi arg28 c2_i32_145
  let c0_i32_154 : BitVec 32 := 0#32
  let c0_i32_155 : BitVec 32 := 0#32
  ![v191.toNat, 0, 0]
def k0_off14 (k0_t2 : Fin k0_t2_loop.trips) : Fin 3 → Nat :=
  let c0_i32_137 : BitVec 32 := 0#32
  let c1_i32_139 : BitVec 32 := 1#32
  let arg28 : BitVec 32 := Scf.iv c0_i32_137 c1_i32_139 k0_t2
  let c0_i32_156 : BitVec 32 := 0#32
  let c0_i32_157 : BitVec 32 := 0#32
  ![arg28.toNat, 0, 0]
def k0_off15 (k0_t2 : Fin k0_t2_loop.trips) : Fin 3 → Nat :=
  let c0_i32_137 : BitVec 32 := 0#32
  let c1_i32_139 : BitVec 32 := 1#32
  let arg28 : BitVec 32 := Scf.iv c0_i32_137 c1_i32_139 k0_t2
  let c2_i32_145 : BitVec 32 := 2#32
  let v191 : BitVec 32 := Scalar.remsi arg28 c2_i32_145
  let v222 : Index := Scalar.indexCast v191
  let c0_158 : Index := 0#32
  let c0_159 : Index := 0#32
  ![v222.toNat, 0, 0]
def k0_cond4 (k0_t1 : Fin k0_t1_loop.trips) : BitVec 1 :=
  let c0_i32_54 : BitVec 32 := 0#32
  let c1_i32_56 : BitVec 32 := 1#32
  let arg27 : BitVec 32 := Scf.iv c0_i32_54 c1_i32_56 k0_t1
  let c0_i32_143 : BitVec 32 := 0#32
  let v188 : BitVec 1 := Scalar.cmpi .sgt arg27 c0_i32_143
  let v189 : BitVec 32 := Scalar.extui v188
  let c0_i32_144 : BitVec 32 := 0#32
  let v190 : BitVec 1 := Scalar.cmpi .ne v189 c0_i32_144
  v190

def k0_off16 (k0_t1 : Fin k0_t1_loop.trips) : Fin 1 → Nat :=
  let c0_i32_54 : BitVec 32 := 0#32
  let c1_i32_56 : BitVec 32 := 1#32
  let arg27 : BitVec 32 := Scf.iv c0_i32_54 c1_i32_56 k0_t1
  let c1_i32_97 : BitVec 32 := 1#32
  let v90 : BitVec 32 := Scalar.subi arg27 c1_i32_97
  ![v90.toNat]
def k0_off17 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let c0_i32_147 : BitVec 32 := 0#32
  let c0_i32_148 : BitVec 32 := 0#32
  ![v89.toNat, 0, 0]
def k0_off18 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c1_i32_94 : BitVec 32 := 1#32
  let v87 : BitVec 32 := Scalar.addi arg27 c1_i32_94
  let c2_i32_95 : BitVec 32 := 2#32
  let v88 : BitVec 32 := Scalar.remsi v87 c2_i32_95
  let c0_i32_149 : BitVec 32 := 0#32
  let c0_i32_150 : BitVec 32 := 0#32
  ![v88.toNat, 0, 0]
def k0_off19 (k0_t1 : Fin k0_t1_loop.trips) : Fin 3 → Nat :=
  let c0_i32_54 : BitVec 32 := 0#32
  let c1_i32_56 : BitVec 32 := 1#32
  let arg27 : BitVec 32 := Scf.iv c0_i32_54 c1_i32_56 k0_t1
  let c2_i32_96 : BitVec 32 := 2#32
  let v89 : BitVec 32 := Scalar.remsi arg27 c2_i32_96
  let v207 : Index := Scalar.indexCast v89
  let c0_157 : Index := 0#32
  let c0_158 : Index := 0#32
  ![v207.toNat, 0, 0]
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_59 : BitVec 32 := 1#32
  let v61 : BitVec 32 := Scalar.muli v7 c1_i32_59
  let v62 : BitVec 32 := Scalar.addi c0_i32_60 v61
  v62.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_64 : BitVec 32 := 1#32
  let v65 : BitVec 32 := Scalar.muli v5 c1_i32_64
  let v66 : BitVec 32 := Scalar.addi c0_i32_65 v65
  v66.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S1024x64 : Shape := ⟨2, ![1024, 64]⟩
abbrev S16384x2 : Shape := ⟨2, ![16384, 2]⟩
abbrev S64x1024x1024 : Shape := ⟨3, ![64, 1024, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x64 : Shape := ⟨3, ![1, 1, 64]⟩
abbrev S16384x2x64 : Shape := ⟨3, ![16384, 2, 64]⟩
abbrev S16384x1x64 : Shape := ⟨3, ![16384, 1, 64]⟩
abbrev S16384x64x1024 : Shape := ⟨3, ![16384, 64, 1024]⟩
abbrev S16384x64x1 : Shape := ⟨3, ![16384, 64, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384x2, .i32⟩
  | .hbm, ⟨3, _⟩ => ⟨S64x1024x1024, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x2x1, .i32⟩
  | .hbm, ⟨17, _⟩ => ⟨S1x1x64, .i32⟩
  | .hbm, ⟨18, _⟩ => ⟨S16384x2x64, .i32⟩
  | .hbm, ⟨19, _⟩ => ⟨S16384x2x64, .i32⟩
  | .hbm, ⟨20, _⟩ => ⟨S16384x2x64, .i1⟩
  | .hbm, ⟨21, _⟩ => ⟨S16384x2x64, .f32⟩
  | .hbm, ⟨22, _⟩ => ⟨S16384x1x64, .f32⟩
  | .hbm, ⟨23, _⟩ => ⟨S16384x2x64, .f32⟩
  | .hbm, ⟨24, _⟩ => ⟨S16384x2x64, .f32⟩
  | .hbm, ⟨25, _⟩ => ⟨S_, .f32⟩
  | .hbm, ⟨26, _⟩ => ⟨S16384x2, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x2, .f32⟩
  | .hbm, ⟨31, _⟩ => ⟨S16384x2, .f32⟩
  | .hbm, ⟨32, _⟩ => ⟨S16384x2x1, .f32⟩
  | .hbm, ⟨33, _⟩ => ⟨S16384x2x64, .f32⟩
  | .hbm, ⟨34, _⟩ => ⟨S16384x2x64, .f32⟩
  | .hbm, ⟨35, _⟩ => ⟨S_, .f32⟩
  | .hbm, ⟨36, _⟩ => ⟨S16384x64, .f32⟩
  | .hbm, ⟨37, _⟩ => ⟨S16384x64x1024, .f32⟩
  | .hbm, ⟨38, _⟩ => ⟨S16384x64x1, .f32⟩
  | .hbm, ⟨39, _⟩ => ⟨S16384x64x1024, .f32⟩
  | .hbm, ⟨40, _⟩ => ⟨S16384x64x1024, .f32⟩
  | .hbm, ⟨41, _⟩ => ⟨S_, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Slots.lean ====
/-
# Owning a region of a buffer with a property of what it reads

`Sl c M P`: device `c`'s elements under the memref `M`, owned outright, at contents whose reading through `M` satisfies `P`.
The rules of a load and of a store through a region and through a slot (a squeezed slice) of a larger memref are stated for it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the exchange's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

abbrev 𝒱₀ : Variants := Variants.none

/-! ## A region held -/

/-- Device `c`'s elements under `M`, whole, at contents that read as `P` says. -/
def Sl (c : Dev nD) {sp : Space} {s : Shape} {e : EltTy} (M : Memref sig .tc sp s e) (P : (s.Idx → Elt F e) → Prop) : sProp 𝕄 :=
  iprop(∃ f : Buf (Elt F) (M.view.loc (c : Thread nD τ)), ⌜P (M.view.read (Elt F) f)⌝ ∗ (M.view.loc (c : Thread nD τ) ↦[M.view.set]{fullShare} f))

instance Sl_storable (c : Dev nD) {sp : Space} {s : Shape} {e : EltTy} (M : Memref sig .tc sp s e) (P : (s.Idx → Elt F e) → Prop) :
    BI.Storable (upEmb : UEmb _ 𝕄) (Sl (F := F) c M P) := by unfold Sl; infer_instance

/-- No property. -/
def anyv {s : Shape} {e : EltTy} : (s.Idx → Elt F e) → Prop := fun _ => True

theorem Sl_mono (c : Dev nD) {sp : Space} {s : Shape} {e : EltTy} (M : Memref sig .tc sp s e) {P P' : (s.Idx → Elt F e) → Prop}
    (h : ∀ v, P v → P' v) : Sl c M P ⊢ Sl c M P' := by
  unfold Sl
  iintro ⟨%f, %hf, H⟩
  iexists f
  isplitr; · ipureintro; exact h _ hf
  iexact H

theorem Sl_any (c : Dev nD) {sp : Space} {s : Shape} {e : EltTy} (M : Memref sig .tc sp s e) {P : (s.Idx → Elt F e) → Prop} :
    Sl c M P ⊢ Sl c M anyv := Sl_mono c M fun _ _ => trivial

section Rules

variable {α : Type} {Q : α → sProp (MT nD τ sig Unit (Elt F) ℕ UU ℕ)}

/-- A load through a rectangle of a region held. -/
theorem load_view (c : Dev nD) {cs : CoreSpace} {s : Shape} {e : EltTy} (M : Memref sig .tc cs s e) {r : LoadRect s} {hl : M.view.LoadsAt r}
    {k : (r.shape.Idx → Elt F e) → Prog (TpuEff nD τ sig (Elt F) Λ₀ .tc) α} (P : (s.Idx → Elt F e) → Prop) :
    Sl c M P ⊢ iprop((∀ v, ⌜P v⌝ -∗ Sl c M P -∗ wp frame (wpE (defs₀ (F := F)) 𝒱₀ (c : Thread nD τ) none) Set.univ (k fun x => v (r.idx x)) Q)
      -∗ wp frame (wpE (defs₀ (F := F)) 𝒱₀ (c : Thread nD τ) none) Set.univ (.op (.load M r hl) k) Q) := by
  unfold Sl
  iintro ⟨%f, %hf, H⟩ Hk
  have hS : M.view.setOn r.set ⊆ M.view.set := View.setOn_subset_set M.view _
  iapply (wp_load 𝒱₀ (c : Thread nD τ) none Set.univ (m := M) hS) $$ H
  iintro H
  ispecialize Hk $$ %(M.view.read (Elt F) f) %hf
  iapply Hk
  iexists f
  isplitr; · ipureintro; exact hf
  iexact H

/-- A store through a rectangle of a region held. -/
theorem store_view (c : Dev nD) {cs : CoreSpace} {s : Shape} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} (P P' : (s.Idx → Elt F e) → Prop)
    (hP : ∀ v v', P v → (∀ x, v' (r.emb x) = w x) → (∀ y, (∀ x, r.emb x ≠ y) → v' y = v y) → P' v') :
    Sl c M P ⊢ iprop((Sl c M P' -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  unfold Sl
  iintro ⟨%f, %hf, H⟩ Hk
  have hS : (M.access r).setOn Finset.univ ⊆ M.view.set := by rw [View.setOn_univ]; exact View.set_slice_subset M.view _
  iapply (wp_store 𝒱₀ (c : Thread nD τ) none Set.univ (m := M) (r := r) (Mk := Finset.univ) (S := M.view.set) hS) $$ H
  iintro H
  iapply Hk
  iexists ((M.access r).write (Elt F) f w Finset.univ)
  isplitr
  · ipureintro
    refine hP _ _ hf (fun x => ?_) (fun y hy => ?_)
    · exact View.read_slice_write_emb (v := M.view) r f w (Finset.mem_univ x)
    · refine View.read_slice_write_of_not_mem (v := M.view) r f w _ fun h => ?_
      obtain ⟨x, -, hx⟩ := Finset.mem_map.mp h
      exact hy x hx
  iexact H

section Slot

variable (c : Dev nD) {cs : CoreSpace} {s s' : Shape} {e : EltTy} (M : Memref sig .tc cs s e) (r : Rect s) (hr : ∀ a, r.stride a = 1)
  (hq : r.shape.Squeezes s')

/-- Where a slot's index lies in the memref it is a slot of. -/
def slotIdx (y : s'.Idx) : s.Idx := r.emb (Shape.reshapeEquiv hq.numel_eq y)

omit [FloatOps F] in
theorem read_slot (f : M.view.ty.Contents (Elt F)) (y : s'.Idx) :
    ((M.slice r hr).squeeze s' hq).view.read (Elt F) f y = M.view.read (Elt F) f (slotIdx r hq y) := rfl

omit [FloatOps F] in
theorem set_slot : ((M.slice r hr).squeeze s' hq).view.set = M.view.setOn r.set := by
  rw [Memref.set_view_squeeze]
  exact View.set_slice M.view r

/-- A load from inside a slot held, through the memref it is a slot of. -/
theorem load_slot {r' : LoadRect s} {hl : M.view.LoadsAt r'}
    {k : (r'.shape.Idx → Elt F e) → Prog (TpuEff nD τ sig (Elt F) Λ₀ .tc) α} (P : (s'.Idx → Elt F e) → Prop)
    (g : r'.shape.Idx → s'.Idx) (hg : ∀ x, r'.idx x = slotIdx r hq (g x)) :
    Sl c ((M.slice r hr).squeeze s' hq) P ⊢ iprop((∀ v, ⌜P v⌝ -∗ Sl c ((M.slice r hr).squeeze s' hq) P
        -∗ wp frame (wpE (defs₀ (F := F)) 𝒱₀ (c : Thread nD τ) none) Set.univ (k fun x => v (g x)) Q)
      -∗ wp frame (wpE (defs₀ (F := F)) 𝒱₀ (c : Thread nD τ) none) Set.univ (.op (.load M r' hl) k) Q) := by
  unfold Sl
  iintro ⟨%f, %hf, H⟩ Hk
  have hS : M.view.setOn r'.set ⊆ ((M.slice r hr).squeeze s' hq).view.set := by
    rw [set_slot]
    refine Finset.map_subset_map.mpr fun i hi => ?_
    obtain ⟨x, rfl⟩ := r'.exists_idx_of_mem hi
    rw [hg]; exact r.idx_mem _
  iapply (wp_load 𝒱₀ (c : Thread nD τ) none Set.univ (m := M) hS) $$ H
  iintro H
  have he : (M.view.readAt (Elt F) r' f) = fun x => ((M.slice r hr).squeeze s' hq).view.read (Elt F) f (g x) := by
    funext x; rw [read_slot, View.readAt_apply, hg]
  rw [he]
  ispecialize Hk $$ %(((M.slice r hr).squeeze s' hq).view.read (Elt F) f) %hf
  iapply Hk
  iexists f
  isplitr; · ipureintro; exact hf
  iexact H

/-- A store inside a slot held, through the memref it is a slot of. -/
theorem store_slot {r' : Rect s} {w : r'.shape.Idx → Elt F e}
    {hx : (M.access r').Stores Finset.univ} {hm : (Finset.univ : Finset r'.shape.Idx) = Finset.univ ∨ ∀ a, r'.stride a = 1}
    {k : PUnit → Prog (TpuEff nD τ sig (Elt F) Λ₀ .tc) α} (P P' : (s'.Idx → Elt F e) → Prop)
    (g : r'.shape.Idx → s'.Idx) (hg : ∀ x, r'.idx x = slotIdx r hq (g x))
    (hP : ∀ v v', P v → (∀ x, v' (g x) = w x) → (∀ y, (∀ x, g x ≠ y) → v' y = v y) → P' v') :
    Sl c ((M.slice r hr).squeeze s' hq) P ⊢ iprop((Sl c ((M.slice r hr).squeeze s' hq) P'
        -∗ wp frame (wpE (defs₀ (F := F)) 𝒱₀ (c : Thread nD τ) none) Set.univ (k ⟨⟩) Q)
      -∗ wp frame (wpE (defs₀ (F := F)) 𝒱₀ (c : Thread nD τ) none) Set.univ (.op (.store M r' w Finset.univ hx hm) k) Q) := by
  unfold Sl
  iintro ⟨%f, %hf, H⟩ Hk
  have hS : (M.access r').setOn Finset.univ ⊆ ((M.slice r hr).squeeze s' hq).view.set := by
    rw [set_slot, View.setOn_univ, View.set_slice]
    refine Finset.map_subset_map.mpr fun i hi => ?_
    obtain ⟨x, rfl⟩ := r'.toLoadRect.exists_idx_of_mem hi
    rw [hg]; exact r.idx_mem _
  iapply (wp_store 𝒱₀ (c : Thread nD τ) none Set.univ (m := M) (r := r') (Mk := Finset.univ) (S := ((M.slice r hr).squeeze s' hq).view.set) hS) $$ H
  iintro H
  iapply Hk
  iexists ((M.access r').write (Elt F) f w Finset.univ)
  isplitr
  · ipureintro
    refine hP _ _ hf (fun x => ?_) (fun y hy => ?_)
    · rw [read_slot, ← hg]
      exact View.read_slice_write_emb (v := M.view) r' f w (Finset.mem_univ x)
    · rw [read_slot, read_slot]
      refine View.read_slice_write_of_not_mem (v := M.view) r' f w _ fun h => ?_
      obtain ⟨x, -, hx⟩ := Finset.mem_map.mp h
      refine hy x ?_
      have h2 : slotIdx r hq (g x) = slotIdx r hq y := (hg x).symm.trans hx
      exact (Shape.reshapeEquiv hq.numel_eq).injective (r.emb.injective h2)
  iexact H

/-- The whole slot loaded: what it reads, given the unit axis. -/
theorem load_slot_full {hl : M.view.LoadsAt r.toLoadRect}
    {k : (r.shape.Idx → Elt F e) → Prog (TpuEff nD τ sig (Elt F) Λ₀ .tc) α} (P : (s'.Idx → Elt F e) → Prop) :
    Sl c ((M.slice r hr).squeeze s' hq) P ⊢ iprop((∀ w : r.shape.Idx → Elt F e, ⌜P (fun y => w (Shape.reshapeEquiv hq.numel_eq y))⌝
        -∗ Sl c ((M.slice r hr).squeeze s' hq) P -∗ wp frame (wpE (defs₀ (F := F)) 𝒱₀ (c : Thread nD τ) none) Set.univ (k w) Q)
      -∗ wp frame (wpE (defs₀ (F := F)) 𝒱₀ (c : Thread nD τ) none) Set.univ (.op (.load M r.toLoadRect hl) k) Q) := by
  iintro H Hk
  iapply (load_slot c M r hr hq (r' := r.toLoadRect) P (Shape.reshapeEquiv hq.numel_eq).symm
    (fun x => by unfold slotIdx; rw [Equiv.apply_symm_apply]; rfl)) $$ H
  iintro %v %hv H
  ispecialize Hk $$ %(fun x => v ((Shape.reshapeEquiv hq.numel_eq).symm x)) [] H
  · ipureintro; simpa only [Equiv.symm_apply_apply] using hv
  iexact Hk

/-- The slot reads as `w`, without the unit axis. -/
def isW {s₁ s' : Shape} (h : s'.numel = s₁.numel) {e : EltTy} (w : s₁.Idx → Elt F e) : (s'.Idx → Elt F e) → Prop :=
  fun v => v = fun y => w (Shape.reshapeEquiv h y)

/-- The whole slot, known, loaded. -/
theorem load_slot_isW {hl : M.view.LoadsAt r.toLoadRect}
    {k : (r.shape.Idx → Elt F e) → Prog (TpuEff nD τ sig (Elt F) Λ₀ .tc) α} (w : r.shape.Idx → Elt F e) :
    Sl c ((M.slice r hr).squeeze s' hq) (isW hq.numel_eq w) ⊢ iprop((Sl c ((M.slice r hr).squeeze s' hq) (isW hq.numel_eq w)
        -∗ wp frame (wpE (defs₀ (F := F)) 𝒱₀ (c : Thread nD τ) none) Set.univ (k w) Q)
      -∗ wp frame (wpE (defs₀ (F := F)) 𝒱₀ (c : Thread nD τ) none) Set.univ (.op (.load M r.toLoadRect hl) k) Q) := by
  iintro H Hk
  iapply (load_slot_full c M r hr hq (isW hq.numel_eq w)) $$ H
  iintro %w' %hw H
  have he : w' = w := funext fun x => by
    have := congrFun hw ((Shape.reshapeEquiv hq.numel_eq).symm x)
    simpa only [Equiv.apply_symm_apply] using this
  subst he
  iapply Hk; iexact H

/-- The whole slot stored. -/
theorem store_slot_full {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} (P : (s'.Idx → Elt F e) → Prop) :
    Sl c ((M.slice r hr).squeeze s' hq) P ⊢ iprop((Sl c ((M.slice r hr).squeeze s' hq) (isW hq.numel_eq w)
        -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) :=
  store_slot c M r hr hq P (isW hq.numel_eq w) (Shape.reshapeEquiv hq.numel_eq).symm
    (fun x => by unfold slotIdx; rw [Equiv.apply_symm_apply]; rfl)
    (fun v v' _ h _ => funext fun y => by
      have := h (Shape.reshapeEquiv hq.numel_eq y)
      rwa [Equiv.symm_apply_apply] at this)

end Slot

end Rules

end Cert.Moe
-- ==== Proof.Contents.lean ====
/-
# What the exchange moves: the ring, the buffers' slots, and the contents of every hop

Device `c` sends its A half's tokens up the ring (to `nxt c`) and its B half's down (to `prv c`); the partial sums of a
block travel with the block. The contents of each slot are stated from the launch memory `m`, over any float values.
-/
module

public import proofs.«01_k».proof.Proof.Slots
public import Idealize.ShloMosaic.Lib.ValueLayout
public import Idealize.ShloMosaic.Lib.ValueIdxCoords

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring of eight -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device whose A tokens device `c` holds at hop `h`, and the one whose B tokens it holds. -/
def bk (c : Dev nD) (h : ℕ) : Dev nD := prv^[h] c
def fw (c : Dev nD) (h : ℕ) : Dev nD := nxt^[h] c

theorem bk_zero (c : Dev nD) : bk c 0 = c := rfl
theorem fw_zero (c : Dev nD) : fw c 0 = c := rfl
theorem bk_succ (c : Dev nD) (h : ℕ) : bk c (h + 1) = bk (prv c) h := Function.iterate_succ_apply _ _ _
theorem fw_succ (c : Dev nD) (h : ℕ) : fw c (h + 1) = fw (nxt c) h := Function.iterate_succ_apply _ _ _
theorem bk_nxt (c : Dev nD) (h : ℕ) : bk (nxt c) (h + 1) = bk c h := by rw [bk_succ, prv_nxt]
theorem fw_prv (c : Dev nD) (h : ℕ) : fw (prv c) (h + 1) = fw c h := by rw [fw_succ, nxt_prv]

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) (t h) : (⟨k0_dev3 c, k0_dev3_lt c t h⟩ : Dev nD) = nxt c := Fin.ext (k0_dev3_eq c)
theorem dev4_eq (c : Dev nD) (t h) : (⟨k0_dev4 c, k0_dev4_lt c t h⟩ : Dev nD) = prv c := Fin.ext (k0_dev4_eq c)
theorem dev5_eq (c : Dev nD) (t h) : (⟨k0_dev5 c, k0_dev5_lt c t h⟩ : Dev nD) = nxt c := Fin.ext (k0_dev5_eq c)
theorem dev6_eq (c : Dev nD) (t h) : (⟨k0_dev6 c, k0_dev6_lt c t h⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The slots -/

set_option backward.proofsInPublic true in
/-- A hop's parity. -/
def par (n : ℕ) : Fin 2 := ⟨n % 2, Nat.mod_lt _ (by decide)⟩

theorem inbX : ∀ p : Fin 2, ∀ a, (![p.val, 0, 0] : Fin 3 → ℕ) a + S1x1024x1152.size a ≤ S2x1024x1152.size a := by decide
theorem inbA : ∀ p : Fin 2, ∀ a, (![p.val, 0, 0] : Fin 3 → ℕ) a + S1x1024x1024.size a ≤ S2x1024x1024.size a := by decide
theorem inbE : ∀ e : Fin 8, ∀ a, (![e.val, 0, 0] : Fin 3 → ℕ) a + S1x1024x1024.size a ≤ S8x1024x1024.size a := by decide
theorem inbH : ∀ p : Fin 2, ∀ a, (![1024 * p.val, 0] : Fin 2 → ℕ) a + S1024x1024.size a ≤ S2048x1024.size a := by decide

abbrev rX (p : Fin 2) : Rect S2x1024x1152 := Rect.unit (s := S2x1024x1152) ![p.val, 0, 0] S1x1024x1152.size (inbX p)
abbrev rA (p : Fin 2) : Rect S2x1024x1024 := Rect.unit (s := S2x1024x1024) ![p.val, 0, 0] S1x1024x1024.size (inbA p)
abbrev rE (e : Fin 8) : Rect S8x1024x1024 := Rect.unit (s := S8x1024x1024) ![e.val, 0, 0] S1x1024x1024.size (inbE e)
abbrev rH (p : Fin 2) : Rect S2048x1024 := Rect.unit (s := S2048x1024) ![1024 * p.val, 0] S1024x1024.size (inbH p)

abbrev xM : Memref sig .tc .hbm S2048x1024 .f32 := Memref.whole main_arg0
abbrev wM : Memref sig .tc .hbm S8x1024x1024 .f32 := Memref.whole main_arg3
abbrev rtM : Memref sig .tc .vmem S1024x64 .f32 := Memref.whole cc0_stg0_0
abbrev ixM : Memref sig .tc .vmem S2048x2 .i32 := Memref.whole cc0_stg1_0
abbrev outM : Memref sig .tc .vmem S2048x1024 .f32 := Memref.whole cc0_stg2_0
abbrev xaM : Memref sig .tc .vmem S2x1024x1152 .bf16 := Memref.whole cc0_scratch0
abbrev xbM : Memref sig .tc .vmem S2x1024x1152 .bf16 := Memref.whole cc0_scratch1
abbrev aaM : Memref sig .tc .vmem S2x1024x1024 .bf16 := Memref.whole cc0_scratch2
abbrev abM : Memref sig .tc .vmem S2x1024x1024 .bf16 := Memref.whole cc0_scratch3
abbrev faM : Memref sig .tc .vmem S1024x1024 .bf16 := Memref.whole cc0_scratch4
abbrev fbM : Memref sig .tc .vmem S1024x1024 .bf16 := Memref.whole cc0_scratch5
abbrev taM : Memref sig .tc .vmem S1024x1024 .bf16 := Memref.whole cc0_scratch6
abbrev tbM : Memref sig .tc .vmem S1024x1024 .bf16 := Memref.whole cc0_scratch7
abbrev stM : Memref sig .tc .vmem S2x1024x1024 .f32 := Memref.whole cc0_scratch8

abbrev xaS (p : Fin 2) : Memref sig .tc .vmem S1024x1152 .bf16 := (xaM.slice (rX p) (fun _ => rfl)).squeeze S1024x1152 squeezes_S1x1024x1152_S1024x1152
abbrev xbS (p : Fin 2) : Memref sig .tc .vmem S1024x1152 .bf16 := (xbM.slice (rX p) (fun _ => rfl)).squeeze S1024x1152 squeezes_S1x1024x1152_S1024x1152
abbrev aaS (p : Fin 2) : Memref sig .tc .vmem S1024x1024 .bf16 := (aaM.slice (rA p) (fun _ => rfl)).squeeze S1024x1024 squeezes_S1x1024x1024_S1024x1024
abbrev abS (p : Fin 2) : Memref sig .tc .vmem S1024x1024 .bf16 := (abM.slice (rA p) (fun _ => rfl)).squeeze S1024x1024 squeezes_S1x1024x1024_S1024x1024
abbrev stS (p : Fin 2) : Memref sig .tc .vmem S1024x1024 .f32 := (stM.slice (rA p) (fun _ => rfl)).squeeze S1024x1024 squeezes_S1x1024x1024_S1024x1024
abbrev wS (e : Fin 8) : Memref sig .tc .hbm S1024x1024 .f32 := (wM.slice (rE e) (fun _ => rfl)).squeeze S1024x1024 squeezes_S1x1024x1024_S1024x1024
abbrev xS (p : Fin 2) : Memref sig .tc .hbm S1024x1024 .f32 := xM.slice (rH p) (fun _ => rfl)

/-- A slot named by computed offsets is the slot at the offsets' values. -/
theorem slot_congr {sp : Space} {s s' : Shape} {e : EltTy} (M : Memref sig .tc sp s e) {off off' : Fin s.rank → ℕ} (h : off = off') {sz : Fin s.rank → ℕ}
    {inb : ∀ a, off a + sz a ≤ s.size a} {inb' : ∀ a, off' a + sz a ≤ s.size a} {h1 h2} {hq hq'} :
    (M.slice (Rect.unit (s := s) off sz inb) h1).squeeze s' hq = (M.slice (Rect.unit (s := s) off' sz inb') h2).squeeze s' hq' := by
  subst h; rfl

/-! ## The contents -/

/-- A block given its leading unit axis. -/
def un {α : Type} (v : S1024x1024.Idx → α) : S1x1024x1024.Idx → α := fun x => v ((Shape.reshapeEquiv squeezes_S1x1024x1024_S1024x1024.numel_eq).symm x)

/-- The half `p` of device `t`'s tokens, and expert `e` of device `c`'s. -/
def xV (t : Dev nD) (p : Fin 2) : S1024x1024.Idx → Elt F .f32 := (xS p).view.read (Elt F) (m ((t : Thread nD τ).loc main_arg0))
def wV (c : Dev nD) (e : Fin 8) : S1024x1024.Idx → Elt F .f32 := (wS e).view.read (Elt F) (m ((c : Thread nD τ).loc main_arg3))

/-- The staged router and the staged expert numbers. -/
def rtV (c : Dev nD) : (cc0_stg0_0 : Ref sig .tc).ty.Contents (Elt F) := (win0_0.blk (0 : Fin 1)).view.read (Elt F) (m ((c : Thread nD τ).loc main_arg1))
def ixV (c : Dev nD) : (cc0_stg1_0 : Ref sig .tc).ty.Contents (Elt F) := (win0_1.blk (0 : Fin 1)).view.read (Elt F) (m ((c : Thread nD τ).loc main_arg2))

theorem inbI : ∀ p : Fin 2, ∀ a, (![1024 * p.val, 0] : Fin 2 → ℕ) a + S1024x2.size a ≤ S2048x2.size a := by decide
abbrev rI (p : Fin 2) : Rect S2048x2 := Rect.unit (s := S2048x2) ![1024 * p.val, 0] S1024x2.size (inbI p)

/-- The half `p` of device `t`'s expert numbers, two per token. -/
def ixH (t : Dev nD) (p : Fin 2) : S1024x2.Idx → Elt F .i32 := fun x => ixV m t ((rI p).idx x)

/-- What travels of device `t`: its A tokens and their two expert numbers, its B tokens and theirs. -/
def tokA (t : Dev nD) : S1x1024x1024.Idx → Elt F .bf16 := k0_pay29 (un (xV m t 0))
def numA (t : Dev nD) : S1x1024x2.Idx → Elt F .bf16 := k0_pay30 (ixH m t 0)
def tokB (t : Dev nD) : S1x1024x1024.Idx → Elt F .bf16 := k0_pay32 (k0_pay31 (un (xV m t 1)))
def numB (t : Dev nD) : S1x1024x2.Idx → Elt F .bf16 := k0_pay33 (ixH m t 1)

/-- One of the two columns of expert numbers. -/
def col (j : Fin 2) {α : Type} (w : S1x1024x2.Idx → α) : S1x1024x1.Idx → α := fun x => w (ix3 (0 : Fin 1) (x 1) j)

/-- The index in a token slot of an index of its columns `o` to `o + w`. -/
def wIdx (o w : ℕ) (hw : o + w ≤ 1152) (x : (⟨3, ![1, 1024, w]⟩ : Shape).Idx) : S1024x1152.Idx :=
  ix2 (x 1 : Fin 1024) (⟨o + (x 2 : Fin w).val, lt_of_lt_of_le (Nat.add_lt_add_left (x 2 : Fin w).isLt o) hw⟩ : Fin 1152)

/-- A token slot holding tokens `X` and their expert numbers `I`; the columns beyond are not spoken of. -/
def isTok (X : S1x1024x1024.Idx → Elt F .bf16) (I : S1x1024x2.Idx → Elt F .bf16) : (S1024x1152.Idx → Elt F .bf16) → Prop := fun v =>
  (fun x => v (wIdx 0 1024 (by decide) x)) = X ∧ (fun x => v (wIdx 1024 2 (by decide) x)) = I

/-- The device's number as the kernel computes it. -/
def dw (c : Dev nD) : BitVec 32 := Scalar.remsi (Scalar.divsi (Dev.word c) 1#32) 8#32

/-- The router, rounded as the kernel rounds it. -/
def rtr (c : Dev nD) : FVec F S1024x64 .bf16 := k0_pay28 (rtV m c)

/-- Device `c`'s contribution to device `t`'s A tokens after its first `e` experts. -/
def sumA (c t : Dev nD) : ℕ → FVec F S1024x1024 .bf16
  | 0 => k0_pay34 k0_pay27
  | e + 1 => if h : e < k0_t2_loop.trips then
      k0_pay36 (k0_pay5 (k0_pay10 (tokA m t)) (un (wV m c ⟨e, h⟩))) (k0_pay6 (sumA c t e))
        (k0_pay7 (dw c) (k0_pay11 (col 0 (numA m t))) (k0_pay12 (col 1 (numA m t)))
          (k0_pay17 (k0_pay14 (rtr m c) (tokA m t) (col 0 (numA m t))) (k0_pay15 (rtr m c) (tokA m t) (col 1 (numA m t))))
          (k0_pay18 (k0_pay14 (rtr m c) (tokA m t) (col 0 (numA m t))) (k0_pay15 (rtr m c) (tokA m t) (col 1 (numA m t)))) 0#32 1#32 ⟨e, h⟩)
    else sumA c t e

/-- The same of device `t`'s B tokens. -/
def sumB (c t : Dev nD) : ℕ → FVec F S1024x1024 .bf16
  | 0 => k0_pay35
  | e + 1 => if h : e < k0_t2_loop.trips then
      k0_pay37 (k0_pay19 (tokB m t))
        (k0_pay3 (dw c) (k0_pay20 (col 0 (numB m t))) (k0_pay21 (col 1 (numB m t)))
          (k0_pay25 (rtr m c) (tokB m t) (col 0 (numB m t)) (col 1 (numB m t)))
          (k0_pay26 (rtr m c) (tokB m t) (col 0 (numB m t)) (col 1 (numB m t))) 0#32 1#32 ⟨e, h⟩)
        (k0_pay4 (un (wV m c ⟨e, h⟩))) (sumB c t e)
    else sumB c t e

def ctA (c t : Dev nD) : FVec F S1024x1024 .bf16 := sumA m c t 8
def ctB (c t : Dev nD) : FVec F S1024x1024 .bf16 := sumB m c t 8

/-- The partial sums device `c` holds at the end of hop `h`: of the tokens of `bk c h`, summed at `bk c h`, …, `c`. -/
def accA : Dev nD → ℕ → (S1x1024x1024.Idx → Elt F .bf16)
  | c, 0 => k0_pay38 (ctA m c c)
  | c, h + 1 => k0_pay8 (accA (prv c) h) (ctA m c (bk c (h + 1)))
def accB : Dev nD → ℕ → (S1x1024x1024.Idx → Elt F .bf16)
  | c, 0 => k0_pay39 (ctB m c c)
  | c, h + 1 => k0_pay40 (k0_pay9 (accB (nxt c) h) (ctB m c (fw c (h + 1))))

/-- A slot of partial sums (or of staged tokens or weights) reading as `w`. -/
abbrev isB {e : EltTy} (w : S1x1024x1024.Idx → Elt F e) : (S1024x1024.Idx → Elt F e) → Prop := isW squeezes_S1x1024x1024_S1024x1024.numel_eq w

omit [FloatOps F] in
theorem isB_un {e : EltTy} (v : S1024x1024.Idx → Elt F e) : isB (un v) v := by
  funext y; unfold un; rw [Equiv.symm_apply_apply]

end Cert.Moe

end
-- ==== Proof.Ring.lean ====
/-
# The cells of the exchange, what each is paid with, and the debts

Each semaphore cell of the exchange has one round. A barrier cell is paid by both neighbours, each handing over the two
buffers the device writes there first. A receive cell is paid by the transfer that lands; besides the landed contents the
sender hands its neighbour the slot that the neighbour's next transfer back writes.
-/
module

public import proofs.«01_k».proof.Proof.Contents
public import Idealize.ShloMosaic.Lib.Transfers
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The barrier cell and the last transfers' four. -/
inductive GK | bar | sfa | rfa | sfb | rfb
  deriving DecidableEq
instance : Fintype GK := ⟨{.bar, .sfa, .rfa, .sfb, .rfb}, by intro x; cases x <;> decide⟩
/-- A hop's eight: send and receive of the A tokens, the A sums, the B tokens, the B sums. -/
inductive HK | sxa | rxa | saa | raa | sxb | rxb | sab | rab
  deriving DecidableEq
instance : Fintype HK := ⟨{.sxa, .rxa, .saa, .raa, .sxb, .rxb, .sab, .rab}, by intro x; cases x <;> decide⟩

abbrev CK : Type := GK ⊕ (Fin 7 × HK)

abbrev barS : Sem sig := (SemArray.scalar (sig.barrier 0 rfl) : Sems sig S_).sem

def HK.num : HK → Fin 8 | .sxa => 0 | .rxa => 1 | .saa => 2 | .raa => 3 | .sxb => 4 | .rxb => 5 | .sab => 6 | .rab => 7

set_option backward.proofsInPublic true in
/-- The semaphore of a cell. -/
def csem : CK → SemLoc sig
  | .inl .bar => .reg barS
  | .inl .sfa => .dma (59 : Fin 65)
  | .inl .rfa => .dma (60 : Fin 65)
  | .inl .sfb => .dma (61 : Fin 65)
  | .inl .rfb => .dma (62 : Fin 65)
  | .inr (k, j) => .dma (⟨3 + 7 * j.num.val + k.val, by omega⟩ : Fin 65)

set_option maxRecDepth 20000 in
theorem csem_inj : Function.Injective csem := by
  have h : ∀ a b : CK, csem a = csem b → a = b := by decide +kernel
  exact fun a b hab => h a b hab

abbrev cell (c : Dev nD) (k : CK) : GSem nD τ sig := ((c : Thread nD τ), csem k)

open Classical in
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h]
  exact congrArg some (csem_inj h.choose_spec)

theorem kindOf_none {sm : SemLoc sig} (h : ∀ k, csem k ≠ sm) : kindOf sm = none := by
  unfold kindOf
  rw [dif_neg (fun ⟨k, hk⟩ => h k hk)]

/-! ## Amounts -/

abbrev NX : ℕ := (xaS 0).view.dmaCredit
abbrev NA : ℕ := (aaS 0).view.dmaCredit
theorem NX_pos : 0 < NX := View.dmaCredit_pos _ (by decide)
theorem NA_pos : 0 < NA := View.dmaCredit_pos _ (by decide)

def HK.isX : HK → Bool | .sxa => true | .rxa => true | .sxb => true | .rxb => true | _ => false

def amt : CK → ℕ
  | .inl .bar => 1
  | .inl _ => NA
  | .inr (_, j) => if j.isX then NX else NA

theorem amt_pos (k : CK) : 0 < amt k := by
  rcases k with g | ⟨k, j⟩
  · cases g <;> first | exact Nat.one_pos | exact NA_pos
  · unfold amt; dsimp only; split
    · exact NX_pos
    · exact NA_pos

/-! ## The payloads -/

def payHop (c : Dev nD) (k : Fin 7) : HK → sProp 𝕄
  | .sxa => Sl c (xaS (par k)) anyv
  | .sxb => Sl c (xbS (par k)) anyv
  | .saa => Sl c (aaS (par k)) anyv
  | .sab => Sl c (abS (par k)) anyv
  | .rxa => iprop(Sl c (xaS (par (k + 1))) (isTok (tokA m (bk c (k + 1))) (numA m (bk c (k + 1)))) ∗ Sl (prv c) (abS (par (k + 1))) anyv)
  | .rxb => iprop(Sl c (xbS (par (k + 1))) (isTok (tokB m (fw c (k + 1))) (numB m (fw c (k + 1)))) ∗ Sl (nxt c) (aaS (par (k + 1))) anyv)
  | .raa => iprop(Sl c (aaS (par (k + 1))) (isB (accA m (prv c) k)) ∗ if k.val < 6 then Sl (prv c) (xbS (par k)) anyv else emp)
  | .rab => iprop(Sl c (abS (par (k + 1))) (isB (accB m (nxt c) k)) ∗ if k.val < 6 then Sl (nxt c) (xaS (par k)) anyv else emp)

/-- The last landing buffers' contents: a whole block. -/
abbrev isF (w : S1x1024x1024.Idx → Elt F .bf16) : (S1024x1024.Idx → Elt F .bf16) → Prop := isB w

def pay (c : Dev nD) (d : Bool) : CK → sProp 𝕄
  | .inl .bar => if d then iprop(Sl (prv c) (xbS 1) anyv ∗ Sl (prv c) fbM anyv) else iprop(Sl (nxt c) (xaS 1) anyv ∗ Sl (nxt c) faM anyv)
  | .inl .sfa => Sl c (aaS 1) anyv
  | .inl .sfb => Sl c (abS 1) anyv
  | .inl .rfa => Sl c faM (isF (accA m (prv c) 7))
  | .inl .rfb => Sl c fbM (isF (accB m (nxt c) 7))
  | .inr (k, j) => payHop m c k j

instance pay_storable (c : Dev nD) (d : Bool) (k : CK) : BI.Storable (upEmb : UEmb _ 𝕄) (pay m c d k) := by
  rcases k with g | ⟨k, j⟩
  · cases g <;> unfold pay <;> dsimp only <;> (repeat' split) <;> infer_instance
  · unfold pay payHop
    cases j <;> dsimp only <;> (repeat' split) <;> infer_instance

/-! ## The schedule -/

def dutiesOf : Option CK → Finset Bool
  | none => ∅
  | some (.inl .bar) => Finset.univ
  | some _ => {false}

def amtOf : Option CK → ℕ
  | none => 1
  | some k => amt k

def payOf (c : Dev nD) (d : Bool) : Option CK → sProp 𝕄
  | none => iprop(emp)
  | some k => pay m c d k

def Rd : Rounds.Schedule (GSem nD τ sig) Bool 𝕄 where
  duties g r := if r = 0 ∧ g.1.2 = .tc then dutiesOf (kindOf g.2) else ∅
  unitless _ := False
  amount g _ _ := amtOf (kindOf g.2)
  payload g _ d := payOf m g.1.1 d (kindOf g.2)
  amount_pos g _ _ _ := by
    cases kindOf g.2 with
    | none => exact Nat.one_pos
    | some k => exact amt_pos k

instance Rd_payload_storable (g : GSem nD τ sig) (r : ℕ) (d : Bool) : BI.Storable (upEmb : UEmb _ 𝕄) ((Rd m).payload g r d) := by
  show BI.Storable upEmb (payOf m g.1.1 d (kindOf g.2))
  cases kindOf g.2 with
  | none => unfold payOf; infer_instance
  | some k => exact pay_storable m g.1.1 d k

section Sched
variable (c : Dev nD) (k : CK)

theorem duties_cell : (Rd m).duties (cell c k) 0 = dutiesOf (some k) := by
  dsimp only [Rd]; rw [if_pos ⟨rfl, rfl⟩, kindOf_csem]
theorem duties_bar : (Rd m).duties (cell c (.inl .bar)) 0 = Finset.univ := duties_cell m c _
theorem duties_one (hk : k ≠ .inl .bar) : (Rd m).duties (cell c k) 0 = {false} := by
  rw [duties_cell]; rcases k with g | k
  · cases g <;> first | exact absurd rfl hk | rfl
  · rfl
theorem duties_later (g : GSem nD τ sig) : ∀ r, 1 ≤ r → (Rd m).duties g r = ∅ := fun r hr => by
  dsimp only [Rd]; rw [if_neg fun h => by omega]
theorem mem_duties : false ∈ (Rd m).duties (cell c k) 0 := by
  by_cases hk : k = .inl .bar
  · subst hk; rw [duties_bar]; exact Finset.mem_univ _
  · rw [duties_one m c k hk]; exact Finset.mem_singleton_self _
theorem amount_cell (d : Bool) : (Rd m).amount (cell c k) 0 d = amt k := by
  dsimp only [Rd]; rw [kindOf_csem]; rfl
theorem payload_cell (d : Bool) : (Rd m).payload (cell c k) 0 d = pay m c d k := by
  dsimp only [Rd]; rw [kindOf_csem]; rfl
theorem expect_bar : (Rd m).expect (cell c (.inl .bar)) 0 = 2 := by
  unfold Schedule.expect Schedule.amountOf
  rw [duties_bar, Finset.sum_congr rfl fun d _ => amount_cell m c _ d, Finset.sum_const, Finset.card_univ, Fintype.card_bool]
  rfl
theorem expect_one (hk : k ≠ .inl .bar) : (Rd m).expect (cell c k) 0 = amt k := by
  unfold Schedule.expect Schedule.amountOf; rw [duties_one m c k hk, Finset.sum_singleton, amount_cell]
theorem rest_one (hk : k ≠ .inl .bar) : bigSep ((Rd m).duties (cell c k) 0 \ ∅) (fun d => (Rd m).payload (cell c k) 0 d) = pay m c false k := by
  rw [Finset.sdiff_empty, duties_one m c k hk, bigSep_singleton, payload_cell]
theorem rest_bar : bigSep ((Rd m).duties (cell c (.inl .bar)) 0 \ ∅) (fun d => (Rd m).payload (cell c (.inl .bar)) 0 d)
    = iprop(pay m c false (.inl .bar) ∗ pay m c true (.inl .bar)) := by
  rw [Finset.sdiff_empty, duties_bar, bigSep_univ_eq_bigSepL [false, true] (by decide) (by decide), bigSepL_cons_cons, bigSepL_singleton,
    payload_cell, payload_cell]
  rfl
end Sched

/-! ## Levels and debts -/

def L (g : GSem nD τ sig) : Finset Unit := if g.1.2 = .tc then {()} else ∅

def HK.lev (k : Fin 7) : HK → ℕ
  | .rxa => 2 * k + 2
  | .rxb => 2 * k + 2
  | .raa => 2 * k + 3
  | .rab => 2 * k + 3
  | _ => 0

def levOf : Option CK → ℕ
  | some (.inl .bar) => 1
  | some (.inl .rfa) => 16
  | some (.inl .rfb) => 16
  | some (.inr (k, j)) => j.lev k
  | _ => 0

def lv (g : GSem nD τ sig) (_ : Unit) : ℕ := levOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = levOf (some k) := by unfold lv; rw [kindOf_csem]

/-- Debts, listed: to whom, at which cell. -/
abbrev Debts : Type := List (Dev nD × CK)

def Osum : Debts → CellTallies nD τ sig Unit
  | [] => 0
  | p :: l => Osum l + tallyAt (cell p.1 p.2) () (amt p.2)

theorem Osum_pos {l : Debts} {g : GSem nD τ sig} {u : Unit} (h : 0 < Osum l g u) : ∃ p ∈ l, g = cell p.1 p.2 := by
  induction l with
  | nil => exact absurd h (Nat.lt_irrefl 0)
  | cons p l ih =>
    unfold Osum at h
    rw [Pi.add_apply, Finsupp.add_apply, tallyAt_apply] at h
    by_cases hg : g = cell p.1 p.2
    · exact ⟨p, List.mem_cons_self, hg⟩
    · rw [if_neg (fun h' => hg h'.1), Nat.add_zero] at h
      obtain ⟨q, hq, hg⟩ := ih h
      exact ⟨q, List.mem_cons_of_mem _ hq, hg⟩

omit [FloatOps F] in
/-- A wait at level `n` is allowed when every debt lies above it. -/
theorem mayWait (c : Dev nD) (sm : SemLoc sig) (l : Debts) (n : ℕ) (hs : levOf (kindOf sm) ≤ n) (hl : ∀ p ∈ l, n < levOf (some p.2)) :
    (levAts L lv : sProp 𝕄) ⊢ MayWait (c : Thread nD τ) sm () (Osum l) :=
  MayOwe.of_cut (L := L) (lev := lv) n
    (fun p hp => by rw [Finset.mem_singleton.mp hp, L_tc]; exact Finset.mem_singleton_self _)
    (fun g u hg => by obtain ⟨p, -, rfl⟩ := Osum_pos hg; exact Finset.mem_singleton_self _)
    (fun p hp => by rw [Finset.mem_singleton.mp hp]; exact hs)
    (fun g u hg => by obtain ⟨p, hp, rfl⟩ := Osum_pos hg; rw [lv_cell]; exact hl p hp)

/-- What device `c` owes from hop `k + 1` on, `n` hops being left. -/
def hopDebts (c : Dev nD) (k : Fin 7) : Debts :=
  [(nxt c, .inr (k, .rxa)), (prv c, .inr (k, .rxb)), (nxt c, .inr (k, .raa)), (prv c, .inr (k, .rab))]

def lastDebts (c : Dev nD) : Debts := [(nxt c, .inl .rfa), (prv c, .inl .rfb)]

/-- What device `c` owes when hop `h` begins: the transfers of hop `h` and after (hop 0 has none). -/
def debtsFrom (c : Dev nD) (h : ℕ) : Debts := (((List.finRange 7).filter fun k => h ≤ k.val + 1).flatMap (hopDebts c)) ++ lastDebts c

def debts₀ (c : Dev nD) : Debts := (prv c, .inl .bar) :: (nxt c, .inl .bar) :: debtsFrom c 0

theorem debtsFrom_hop (c : Dev nD) (k : Fin 7) : debtsFrom c (k.val + 1) = hopDebts c k ++ debtsFrom c (k.val + 2) := by
  unfold debtsFrom
  rw [← List.append_assoc]
  refine congrArg (· ++ lastDebts c) ?_
  fin_cases k <;> rfl
theorem debtsFrom_zero (c : Dev nD) : debtsFrom c 0 = debtsFrom c 1 := rfl
theorem debtsFrom_last (c : Dev nD) : debtsFrom c 8 = lastDebts c := rfl

theorem debtsFrom_lev (c : Dev nD) (h : ℕ) : ∀ p ∈ debtsFrom c h, max 1 (min 15 (2 * h - 1)) < levOf (some p.2) := by
  intro p hp
  unfold debtsFrom at hp
  rcases List.mem_append.mp hp with hp | hp
  · obtain ⟨k, hk, hp⟩ := List.mem_flatMap.mp hp
    have hk := of_decide_eq_true (List.mem_filter.mp hk).2
    unfold hopDebts at hp
    simp only [List.mem_cons, List.not_mem_nil, _root_.or_false] at hp
    rcases hp with rfl | rfl | rfl | rfl <;> (unfold levOf HK.lev; dsimp only; omega)
  · unfold lastDebts at hp
    simp only [List.mem_cons, List.not_mem_nil, _root_.or_false] at hp
    rcases hp with rfl | rfl <;> (unfold levOf; dsimp only; omega)

end Cert.Moe

end
-- ==== Proof.Wrap.lean ====
/-
# One rule per kind of effect of the exchange

Each rule takes the records of every cell, the slot a transfer reads and the one it writes, and the debts as a list; the
offsets, semaphores and device of the program are variables with an equation each, so that a rule applies to the program's
own text.
-/
module

public import proofs.«01_k».proof.Proof.Ring

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev kcell (ck : Dev nD × CK) : GSem nD τ sig := cell ck.1 ck.2

/-- Every cell's invariant, and that its round is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem records_at (K : Dev nD × CK → ℕ) (c : Dev nD) (k : CK) :
    records m K ⊢ iprop(cellInv ER (Rd m) (K (c, k)) (cell c k) ∗ reached ER (cell c k) 0) := by
  unfold records
  exact BIClass.sep_mono (inv_at m K (c, k)) (reached_at (c, k))

/-- What device `c` owes, whatever it has waited for. -/
def owesE (c : Dev nD) (l : Debts) : sProp 𝕄 := iprop(∃ W, owes (c : Thread nD τ) (Osum l) W)

section

variable {α : Type} {Q : α → sProp (MT nD τ sig Unit (Elt F) ℕ UU ℕ)} (K : Dev nD × CK → ℕ)

/-- A remote transfer of the exchange: the slot read comes back on the send cell, the slot written lands reading the same
    on the neighbour's receive cell, with `R` handed over besides. -/
theorem wp_xsend (c : Dev nD) {n n' : Dev nD} (hn : n' = n) {cs cs' : CoreSpace} {s : Shape} {e : EltTy}
    {src src' : Memref sig .tc cs s e} (hsrc' : src' = src) {dst dst' : Memref sig .tc cs' s e} (hdst' : dst' = dst)
    (ks kr : CK) {ss rs : DmaSem sig} (hss : SemLoc.dma ss = csem ks) (hrs : SemLoc.dma rs = csem kr)
    (hN : dst.view.dmaCredit = amt kr) (hks : amt ks = amt kr) (l : Debts)
    (P Pd : (s.Idx → Elt F e) → Prop) (R : sProp (MT nD τ sig Unit (Elt F) ℕ UU ℕ))
    (hp1 : Sl c src P ⊢ pay m c false ks) (hp2 : iprop(Sl n dst P ∗ R) ⊢ pay m n false kr)
    {hsc : dst'.view.ref.isScScratch = false} {hsrc : src'.view.WordExact} {hdst : dst'.view.WordExact}
    {hsem : DmaTarget.Typed cs (.dma rs) (.remote (Dev.tc n' : Thread nD τ) dst' (.dma ss) hsc)}
    {k : PUnit → Prog (TpuEff nD τ sig (Elt F) Λ₀ .tc) α} :
    iprop(records m K ∗ Sl c src P ∗ Sl n dst Pd ∗ R ∗ owesE c ((n, kr) :: l) ∗ dutyTok ER (cell c ks) 0 false ∗ dutyTok ER (cell n kr) 0 false)
      ⊢ iprop(((cred (tallyAt (cell c ks) () (amt ks)) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.remote (Dev.tc n' : Thread nD τ) dst' (.dma ss) hsc) (.dma rs) hsrc hdst hsem) k) Q) := by
  subst hn hsrc' hdst'
  have h1 : cell c ks = ((c : Thread nD τ), SemLoc.dma ss) := by unfold cell; rw [hss]
  have h2 : cell n' kr = ((n' : Thread nD τ), SemLoc.dma rs) := by unfold cell; rw [hrs]
  have e1 := mem_duties m c ks
  have e2 := mem_duties m n' kr
  have a1 := amount_cell m c ks false
  have a2 := amount_cell m n' kr false
  have y1 := payload_cell m c ks false
  have y2 := payload_cell m n' kr false
  have q1 : ∀ fs, P (src'.view.read (Elt F) fs) → ((src'.view.loc (c : Thread nD τ) ↦[src'.view.set]{fullShare} fs : sProp (MT nD τ sig Unit (Elt F) ℕ UU ℕ)) ⊢ pay m c false ks) := fun fs hfs => by
    iintro H
    iapply hp1
    unfold Sl
    iexists fs; isplitr; · (ipureintro; exact hfs)
    iexact H
  have q2 : ∀ fs fd, P (src'.view.read (Elt F) fs) → (iprop((dst'.view.loc (n' : Thread nD τ) ↦[dst'.view.set]{fullShare} (dst'.view.write (Elt F) fd (src'.view.read (Elt F) fs) Finset.univ)) ∗ R) ⊢ pay m n' false kr) := fun fs fd hfs => by
    iintro ⟨H, HR⟩
    iapply hp2
    isplitl [H]
    · unfold Sl
      iexists (dst'.view.write (Elt F) fd (src'.view.read (Elt F) fs) Finset.univ)
      isplitr; · (ipureintro; rw [View.read_write_univ]; exact hfs)
      iexact H
    · iexact HR
  iintro ⟨#HK, Hs, Hd, HR, Ho, Ht1, Ht2⟩ Hk
  ihave Hr1 := (records_at m K c ks) $$ HK
  ihave Hr2 := (records_at m K n' kr) $$ HK
  icases Hr1 with ⟨#HI1, #HR1⟩
  icases Hr2 with ⟨#HI2, #HR2⟩
  unfold owesE
  rw [show Osum ((n', kr) :: l) = Osum l + tallyAt (cell n' kr) () (amt kr) from rfl]
  icases Ho with ⟨%W, HO⟩
  unfold Sl
  icases Hs with ⟨%fs, %hfs, Hs⟩
  icases Hd with ⟨%fd, %hfd, Hd⟩
  rw [h1] at e1 a1 y1
  rw [h2] at e2 a2 y2
  rw [h1, h2]
  iapply (Rounds.wp_send_pointsTo_with 𝒱₀ ER (Rd m) (c : Thread nD τ) none (κ₁ := K (c, ks)) (κ₂ := K (n', kr))
    (r₁ := 0) (r₂ := 0) (d₁ := false) (d₂ := false) (fs := fs) (fd := fd) (F := R) e1 e2
    () () (amt kr) hN (a1.trans hks) a2 (Osum l) rfl (W := W)
    (by rw [y1]; exact q1 fs hfs) (by rw [y2]; exact q2 fs fd hfs)) $$ [Hs Hd HR HO Ht1 Ht2]
  · isplitr; · iexact HI1
    isplitr; · iexact HI2
    isplitl [Hs]; · iexact Hs
    isplitl [Hd HR]
    · isplitl [Hd]; · iexact Hd
      iexact HR
    isplitl [HO]; · iexact HO
    isplitl [Ht1]; · iexact Ht1
    isplitr; · iexact HR1
    isplitl [Ht2]; · iexact Ht2
    iexact HR2
  iintro ⟨Hc, HO⟩
  iapply Hk
  isplitl [Hc]; · rw [hks]; iexact Hc
  iexists W; iexact HO

/-- A wait on one of the exchange's cells: what its payer paid, and the cell closed. -/
theorem wp_xwait (c : Dev nD) (k₀ : CK) (hbar : k₀ ≠ .inl .bar) {sem : DmaSem sig} (hs : SemLoc.dma sem = csem k₀)
    {cs cs' : CoreSpace} {s s' : Shape} {e e' : EltTy} {srcw : Memref sig .tc cs s e} {dstw : Memref sig .tc cs' s' e'}
    (hN : dstw.view.dmaCredit = amt k₀) (l : Debts) (hlev : ∀ p ∈ l, levOf (some k₀) < levOf (some p.2))
    {hsrc : srcw.view.WordExact} {hdst : dstw.view.WordExact} {k : PUnit → Prog (TpuEff nD τ sig (Elt F) Λ₀ .tc) α} :
    iprop(records m K ∗ levAts L lv ∗ cred (tallyAt (cell c k₀) () (amt k₀)) ∗ owesE c l ∗ atPos ER (cell c k₀) 0 ∅ 0)
      ⊢ iprop(((owesE c l ∗ semVal (cell c k₀) 0 ∗ pay m c false k₀) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  have h1 : cell c k₀ = ((c : Thread nD τ), SemLoc.dma sem) := by unfold cell; rw [hs]
  have e1 := expect_one m c k₀ hbar
  have y1 := rest_one m c k₀ hbar
  have hm : (levAts L lv : sProp 𝕄) ⊢ MayWait (c : Thread nD τ) (.dma sem) () (Osum l) :=
    mayWait c _ l (levOf (some k₀)) (by rw [hs, kindOf_csem]) hlev
  iintro ⟨#HK, #Hlev, Hc, Ho, Hat⟩ Hk
  ihave Hr1 := (records_at m K c k₀) $$ HK
  icases Hr1 with ⟨#HI, -⟩
  unfold owesE
  icases Ho with ⟨%W, HO⟩
  rw [h1] at e1 y1
  rw [h1, ← hN]
  iapply (Rounds.wp_wait_rest_token 𝒱₀ ER (Rd m) (c : Thread nD τ) none (κ := K (c, k₀))
      (wpE_waitDma2_eq 𝒱₀ (c : Thread nD τ) none Set.univ) (Set.mem_univ _) () (O := Osum l) (W := W) (R := 0) (m := 0) (T := ∅)
      (by rw [Nat.zero_add, e1]; exact hN)) $$ [Hc HO Hat]
  · isplitr; · iexact HI
    isplitl [Hc]; · iexact Hc
    isplitl [HO]; · iexact HO
    isplitr; · iapply hm; iexact Hlev
    iexact Hat
  iintro ⟨HO, Hat, -, Hpay⟩
  imod (Rounds.cell_close ER (Rd m) (Set.mem_univ (K (c, k₀))) (fun h => h) (R := 0 + 1) (duties_later m _)) $$ [Hat] with Hz
  · isplitr; · iexact HI
    iexact Hat
  iapply Hk
  isplitl [HO]; · iexists _; iexact HO
  isplitl [Hz]; · iexact Hz
  ihave Hpay := (.of_eq y1 : _ ⊢ pay m c false k₀) $$ Hpay
  iexact Hpay

/-! ## The local copies -/

/-- A local copy under way: when it is waited for, `dst` reads what `src` did, and `src` is whole again. -/
def InFl (c : Dev nD) (sem : DmaSem sig) {sp sp' : Space} {s : Shape} {e : EltTy} (src : Memref sig .tc sp s e) (dst : Memref sig .tc sp' s e)
    (q : PosShare TreeShare) (fs : Buf (Elt F) (src.view.loc (c : Thread nD τ))) : sProp 𝕄 :=
  Transfers.Flight EC (c : Thread nD τ) (.dma sem) () dst.view.dmaCredit
    iprop(Sl c dst (fun v => v = src.view.read (Elt F) fs) ∗ (src.view.loc (c : Thread nD τ) ↦[src.view.set]{q} fs))

theorem wp_issue (c : Dev nD) {sem sem' : DmaSem sig} (hs : sem' = sem) {sp cs' : Space} {s : Shape} {e : EltTy}
    {src src' : Memref sig .tc sp s e} (hsrc' : src' = src) {dst dst' : Memref sig .tc cs' s e} (hdst' : dst' = dst)
    (hpos : 0 < s.numel) (q : PosShare TreeShare) (fs : Buf (Elt F) (src.view.loc (c : Thread nD τ))) (Pd : (s.Idx → Elt F e) → Prop)
    {hsrc : src'.view.WordExact} {hdst : dst'.view.WordExact} {hsem : DmaTarget.Typed sp (.dma sem') (DmaTarget.here (nD := nD) (τ := τ) (p := .tc) dst')}
    {k : PUnit → Prog (TpuEff nD τ sig (Elt F) Λ₀ .tc) α} :
    iprop((src.view.loc (c : Thread nD τ) ↦[src.view.set]{q} fs) ∗ Sl c dst Pd ∗ semVal ((c : Thread nD τ), SemLoc.dma sem) 0)
      ⊢ iprop((InFl c sem src dst q fs -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sem') hsrc hdst hsem) k) Q) := by
  subst hs hsrc' hdst'
  unfold Sl
  iintro ⟨Hs, ⟨%fd, %hfd, Hd⟩, Hv⟩ Hk
  iapply (Transfers.wp_dmaLocal EC 𝒱₀ (c : Thread nD τ) none () dst'.view.dmaCredit rfl (View.dmaCredit_pos _ hpos) (Sd := dst'.view.set) (fd := fd) (fs := fs) (q := q)
    (Finset.Subset.refl _)) $$ [Hs Hd Hv]
  · isplitl [Hs]; · iexact Hs
    isplitl [Hd]; · iexact Hd
    iexact Hv
  iintro HF
  iapply Hk
  unfold InFl
  iapply (Transfers.Flight_mono EC (c : Thread nD τ) ?_) $$ HF
  iintro ⟨Hd, Hs⟩
  isplitl [Hd]
  · unfold Sl; iexists (dst'.view.write (Elt F) fd (src'.view.read (Elt F) fs) Finset.univ); isplitr; · (ipureintro; exact View.read_write_univ _ _)
    iexact Hd
  iexact Hs

theorem wp_collect (c : Dev nD) {sem sem' : DmaSem sig} (hs : sem' = sem) {sp cs' : Space} {s : Shape} {e : EltTy}
    (src : Memref sig .tc sp s e) (dst : Memref sig .tc cs' s e) (q : PosShare TreeShare) (fs : Buf (Elt F) (src.view.loc (c : Thread nD τ)))
    (hk : kindOf (.dma sem) = none) (l : Debts) (hlev : ∀ p ∈ l, 0 < levOf (some p.2))
    {sp₁ cs₁ : Space} {s₁ s₂ : Shape} {e₁ e₂ : EltTy} {srcw : Memref sig .tc sp₁ s₁ e₁} {dstw : Memref sig .tc cs₁ s₂ e₂}
    (hN : dstw.view.dmaCredit = dst.view.dmaCredit)
    {hsrc : srcw.view.WordExact} {hdst : dstw.view.WordExact} {k : PUnit → Prog (TpuEff nD τ sig (Elt F) Λ₀ .tc) α} :
    iprop(levAts L lv ∗ InFl c sem src dst q fs ∗ owesE c l)
      ⊢ iprop(((owesE c l ∗ semVal ((c : Thread nD τ), SemLoc.dma sem) 0 ∗ Sl c dst (fun v => v = src.view.read (Elt F) fs)
            ∗ (src.view.loc (c : Thread nD τ) ↦[src.view.set]{q} fs)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem' srcw dstw hsrc hdst) k) Q) := by
  subst hs
  have hm : (levAts L lv : sProp 𝕄) ⊢ MayWait (c : Thread nD τ) (.dma sem') () (Osum l) :=
    mayWait c _ l 0 (by rw [hk]; exact Nat.le_refl _) hlev
  iintro ⟨#Hlev, HF, Ho⟩ Hk
  unfold owesE InFl
  icases Ho with ⟨%W, HO⟩
  iapply (Transfers.wp_waitLocalO EC 𝒱₀ (c : Thread nD τ) none () hN (O := Osum l) (W := W)) $$ [HF HO]
  · isplitl [HF]; · iexact HF
    isplitl [HO]; · iexact HO
    iapply hm; iexact Hlev
  iintro ⟨⟨Hd, Hs⟩, Hv, HO⟩
  iapply Hk
  isplitl [HO]; · iexists _; iexact HO
  isplitl [Hv]; · iexact Hv
  isplitl [Hd]; · iexact Hd
  iexact Hs

end

end Cert.Moe

end
-- ==== Proof.Toks.lean ====
/-
# Token slots: their loads and stores

A token slot is written in two stores (the tokens, then their expert numbers) and read through three windows (the tokens,
the first numbers, the second ones), all smaller than the slot.
-/
module

public import proofs.«01_k».proof.Proof.Contents

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

omit [FloatOps F] in
theorem slotIdx_X (p : Fin 2) (hq : (rX p).shape.Squeezes S1024x1152) (i : Fin 1024) (j : Fin 1152) (a : Fin 3) :
    (slotIdx (rX p) hq (ix2 i j) a : ℕ) = (![p.val, i.val, j.val] : Fin 3 → ℕ) a := by
  unfold slotIdx
  have h : Shape.reshapeEquiv hq.numel_eq (ix2 i j) = ix3 (⟨0, Nat.one_pos⟩ : Fin 1) i j := reshapeEquiv_ix2_1ab hq.numel_eq i j
  rw [h]
  show (rX p).off a + (rX p).stride a * _ = _
  fin_cases a
  · show p.val + 1 * 0 = p.val; omega
  · show 0 + 1 * i.val = i.val; omega
  · show 0 + 1 * j.val = j.val; omega

omit [FloatOps F] in
/-- An index of a window at columns `o` on, inside the slot `p`. -/
theorem window_idx (p : Fin 2) (hq : (rX p).shape.Squeezes S1024x1152) (o w : ℕ) (hw : o + w ≤ 1152)
    (inb : ∀ a, (![p.val, 0, o] : Fin 3 → ℕ) a + (![1, 1024, w] : Fin 3 → ℕ) a ≤ S2x1024x1152.size a)
    (x : (⟨3, ![1, 1024, w]⟩ : Shape).Idx) :
    (Rect.unit (s := S2x1024x1152) ![p.val, 0, o] ![1, 1024, w] inb).toLoadRect.idx x = slotIdx (rX p) hq (wIdx o w hw x) := by
  refine @funext (Fin 3) (fun a => Fin (S2x1024x1152.size a)) _ _ fun a => Fin.ext ?_
  refine Eq.trans ?_ (slotIdx_X p hq _ _ a).symm
  have h0 : (x 0 : Fin 1).val = 0 := by have : (x 0 : Fin 1).val < 1 := (x 0 : Fin 1).isLt; omega
  fin_cases a
  · show p.val + 1 * (x 0 : Fin 1).val = p.val; omega
  · show 0 + 1 * (x 1 : Fin 1024).val = (x 1 : Fin 1024).val; omega
  · show o + 1 * (x 2 : Fin w).val = o + (x 2 : Fin w).val; omega

/-- A token slot holding tokens `X`. -/
def isTokX (X : S1x1024x1024.Idx → Elt F .bf16) : (S1024x1152.Idx → Elt F .bf16) → Prop := fun v => (fun x => v (wIdx 0 1024 (by decide) x)) = X

omit [FloatOps F] in
theorem col_eq (j : Fin 2) (v : S1024x1152.Idx → Elt F .bf16) (I : S1x1024x2.Idx → Elt F .bf16) (h : (fun x => v (wIdx 1024 2 (by decide) x)) = I) :
    (fun x => v (wIdx (1024 + j.val) 1 (by omega) x)) = col j I := by
  funext x
  rw [← h]
  refine congrArg v (congrArg (ix2 (x 1 : Fin 1024)) (Fin.ext ?_))
  have h2 : (x 2 : Fin 1).val < 1 := (x 2 : Fin 1).isLt
  show 1024 + j.val + (x 2 : Fin 1).val = 1024 + j.val
  omega

variable {α : Type} {Q : α → sProp (MT nD τ sig Unit (Elt F) ℕ UU ℕ)} (c : Dev nD)
  {cs : CoreSpace} (M : Memref sig .tc cs S2x1024x1152 .bf16) (p : Fin 2)

abbrev tokS : Memref sig .tc cs S1024x1152 .bf16 := (M.slice (rX p) (fun _ => rfl)).squeeze S1024x1152 squeezes_S1x1024x1152_S1024x1152

/-- The tokens read. -/
theorem load_tok {off : Fin 3 → ℕ} (ho : off = ![p.val, 0, 0]) {inb} {hl : M.view.LoadsAt (Rect.unit (s := S2x1024x1152) off S1x1024x1024.size inb).toLoadRect}
    {k : (S1x1024x1024.Idx → Elt F .bf16) → Prog (TpuEff nD τ sig (Elt F) Λ₀ .tc) α} (X : S1x1024x1024.Idx → Elt F .bf16) (I : S1x1024x2.Idx → Elt F .bf16) :
    Sl c (tokS M p) (isTok X I) ⊢ iprop((Sl c (tokS M p) (isTok X I)
        -∗ wp frame (wpE (defs₀ (F := F)) 𝒱₀ (c : Thread nD τ) none) Set.univ (k X) Q)
      -∗ wp frame (wpE (defs₀ (F := F)) 𝒱₀ (c : Thread nD τ) none) Set.univ (.op (.load M (Rect.unit (s := S2x1024x1152) off S1x1024x1024.size inb).toLoadRect hl) k) Q) := by
  subst ho
  iintro H Hk
  iapply (load_slot c M (rX p) (fun _ => rfl) squeezes_S1x1024x1152_S1024x1152 (isTok X I) (wIdx 0 1024 (by decide)) (window_idx p _ 0 1024 (by decide) inb)) $$ H
  iintro %v %hv H
  obtain ⟨rfl, hI⟩ := hv
  iapply Hk; iexact H

/-- A column of expert numbers read. -/
theorem load_num (j : Fin 2) {off : Fin 3 → ℕ} (ho : off = ![p.val, 0, 1024 + j.val]) {inb} {hl : M.view.LoadsAt (Rect.unit (s := S2x1024x1152) off S1x1024x1.size inb).toLoadRect}
    {k : (S1x1024x1.Idx → Elt F .bf16) → Prog (TpuEff nD τ sig (Elt F) Λ₀ .tc) α} (X : S1x1024x1024.Idx → Elt F .bf16) (I : S1x1024x2.Idx → Elt F .bf16) :
    Sl c (tokS M p) (isTok X I) ⊢ iprop((Sl c (tokS M p) (isTok X I)
        -∗ wp frame (wpE (defs₀ (F := F)) 𝒱₀ (c : Thread nD τ) none) Set.univ (k (col j I)) Q)
      -∗ wp frame (wpE (defs₀ (F := F)) 𝒱₀ (c : Thread nD τ) none) Set.univ (.op (.load M (Rect.unit (s := S2x1024x1152) off S1x1024x1.size inb).toLoadRect hl) k) Q) := by
  subst ho
  generalize hC : col j I = C
  iintro H Hk
  iapply (load_slot c M (rX p) (fun _ => rfl) squeezes_S1x1024x1152_S1024x1152 (isTok X I) (wIdx (1024 + j.val) 1 (by omega)) (window_idx p _ (1024 + j.val) 1 (by omega) inb)) $$ H
  iintro %v %hv H
  have he := (col_eq j v I hv.2).trans hC
  subst he
  iapply Hk; iexact H

/-- Any load from inside a slot whose result is not used. -/
theorem load_dead (o w : ℕ) (hw : o + w ≤ 1152) {inb : ∀ a, (![p.val, 0, o] : Fin 3 → ℕ) a + (![1, 1024, w] : Fin 3 → ℕ) a ≤ S2x1024x1152.size a}
    {hl : M.view.LoadsAt (Rect.unit (s := S2x1024x1152) ![p.val, 0, o] ![1, 1024, w] inb).toLoadRect}
    {k : Prog (TpuEff nD τ sig (Elt F) Λ₀ .tc) α} (P : (S1024x1152.Idx → Elt F .bf16) → Prop) :
    Sl c (tokS M p) P ⊢ iprop((Sl c (tokS M p) P -∗ wp frame (wpE (defs₀ (F := F)) 𝒱₀ (c : Thread nD τ) none) Set.univ k Q)
      -∗ wp frame (wpE (defs₀ (F := F)) 𝒱₀ (c : Thread nD τ) none) Set.univ (.op (.load M (Rect.unit (s := S2x1024x1152) ![p.val, 0, o] ![1, 1024, w] inb).toLoadRect hl) fun _ => k) Q) := by
  iintro H Hk
  iapply (load_slot c M (rX p) (fun _ => rfl) squeezes_S1x1024x1152_S1024x1152 P (wIdx o w hw) (window_idx p _ o w hw inb)) $$ H
  iintro %v %hv H
  iapply Hk; iexact H

/-- The tokens written. -/
theorem store_tok {inb : ∀ a, (![p.val, 0, 0] : Fin 3 → ℕ) a + S1x1024x1024.size a ≤ S2x1024x1152.size a} {X : S1x1024x1024.Idx → Elt F .bf16}
    {hx : (M.access (Rect.unit (s := S2x1024x1152) ![p.val, 0, 0] S1x1024x1024.size inb)).Stores Finset.univ} {hm}
    {k : PUnit → Prog (TpuEff nD τ sig (Elt F) Λ₀ .tc) α} (P : (S1024x1152.Idx → Elt F .bf16) → Prop) :
    Sl c (tokS M p) P ⊢ iprop((Sl c (tokS M p) (isTokX X)
        -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := S2x1024x1152) ![p.val, 0, 0] S1x1024x1024.size inb) X Finset.univ hx hm) k) Q) :=
  store_slot c M (rX p) (fun _ => rfl) squeezes_S1x1024x1152_S1024x1152 P _ (wIdx 0 1024 (by decide)) (window_idx p _ 0 1024 (by decide) inb)
    (fun v v' _ h _ => funext h)

/-- The expert numbers written after them. -/
theorem store_num {inb : ∀ a, (![p.val, 0, 1024] : Fin 3 → ℕ) a + S1x1024x2.size a ≤ S2x1024x1152.size a} {I : S1x1024x2.Idx → Elt F .bf16}
    {hx : (M.access (Rect.unit (s := S2x1024x1152) ![p.val, 0, 1024] S1x1024x2.size inb)).Stores Finset.univ} {hm}
    {k : PUnit → Prog (TpuEff nD τ sig (Elt F) Λ₀ .tc) α} (X : S1x1024x1024.Idx → Elt F .bf16) :
    Sl c (tokS M p) (isTokX X) ⊢ iprop((Sl c (tokS M p) (isTok X I)
        -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := S2x1024x1152) ![p.val, 0, 1024] S1x1024x2.size inb) I Finset.univ hx hm) k) Q) :=
  store_slot c M (rX p) (fun _ => rfl) squeezes_S1x1024x1152_S1024x1152 (isTokX X) _ (wIdx 1024 2 (by decide)) (window_idx p _ 1024 2 (by decide) inb)
    (fun v v' hv h hn => ⟨funext fun z => (hn _ fun x hx => by
        have h1 := congrArg (fun z : S1024x1152.Idx => (z 1 : Fin 1152).val) hx
        have h2 : (z 2 : Fin 1024).val < 1024 := (z 2 : Fin 1024).isLt
        change 1024 + (x 2 : Fin 2).val = 0 + (z 2 : Fin 1024).val at h1
        omega).trans (congrFun hv z), funext h⟩)

end

end Cert.Moe

end
-- ==== Proof.Local.lean ====
/-
# Local copies of whole slots, whole-buffer loads and stores, and the names of the program's semaphores

A local copy reads part of a buffer of main memory held by one of two half shares; while it runs, the rest of that half is kept
beside it.
-/
module

public import proofs.«01_k».proof.Proof.Wrap
public import proofs.«01_k».proof.Proof.Toks

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The half of a buffer of main memory that slot `p`'s copies read by. -/
def shr : Fin 2 → PosShare TreeShare := fun p => if p = 0 then fullShare.left else fullShare.right

omit [FloatOps F] in
theorem shr_split {ℓ : Loc nD τ sig} {f : Buf (Elt F) ℓ} :
    (ℓ ↦{fullShare} f : sProp 𝕄) ⊣⊢ iprop((ℓ ↦{shr 0} f) ∗ (ℓ ↦{shr 1} f)) :=
  pointsTo_share (PosShare.mem_left_op_right fullShare)

/-- The semaphore of slot `p`'s local copies. -/
def sldS (p : Fin 2) : DmaSem sig := (⟨63 + p.val, by omega⟩ : Fin 65)

set_option maxRecDepth 20000 in
theorem csem_sld : ∀ (p : Fin 2) (k : CK), csem k ≠ SemLoc.dma (sldS p) := by decide +kernel
theorem kind_sld (p : Fin 2) : kindOf (.dma (sldS p)) = none := kindOf_none (csem_sld p)

theorem inb2 : ∀ p : Fin 2, ∀ a, (![p.val] : Fin 1 → ℕ) a + S1.size a ≤ S2.size a := by decide
theorem sem_sld (p : Fin 2) {off : Fin 1 → ℕ} (ho : off = ![p.val]) {inb} {hq} :
    ((cc0_scratch21.slice (Rect.unit (s := S2) off S1.size inb)).squeeze S_ hq).sem = sldS p := by
  subst ho
  have h : ∀ p : Fin 2, ((cc0_scratch21.slice (Rect.unit (s := S2) ![p.val] S1.size (inb2 p))).squeeze S_ squeezes_S1_S_).sem = sldS p := by
    decide +kernel
  exact h p
theorem inb7 : ∀ k : Fin 7, ∀ a, (![k.val] : Fin 1 → ℕ) a + S1.size a ≤ S7.size a := by decide
theorem sem_sxa (k : Fin 7) {off : Fin 1 → ℕ} (ho : off = ![k.val]) {inb} {hq} :
    SemLoc.dma ((cc0_scratch9.slice (Rect.unit (s := S7) off S1.size inb)).squeeze S_ hq).sem = csem (.inr (k, .sxa)) := by
  subst ho
  have h : ∀ k : Fin 7, ((cc0_scratch9.slice (Rect.unit (s := S7) ![k.val] S1.size (inb7 k))).squeeze S_ squeezes_S1_S_).sem
      = (⟨3 + 7 * (HK.sxa).num.val + k.val, by omega⟩ : Fin 65) := by decide +kernel
  exact congrArg SemLoc.dma (h k)
theorem sem_rxa (k : Fin 7) {off : Fin 1 → ℕ} (ho : off = ![k.val]) {inb} {hq} :
    SemLoc.dma ((cc0_scratch10.slice (Rect.unit (s := S7) off S1.size inb)).squeeze S_ hq).sem = csem (.inr (k, .rxa)) := by
  subst ho
  have h : ∀ k : Fin 7, ((cc0_scratch10.slice (Rect.unit (s := S7) ![k.val] S1.size (inb7 k))).squeeze S_ squeezes_S1_S_).sem
      = (⟨3 + 7 * (HK.rxa).num.val + k.val, by omega⟩ : Fin 65) := by decide +kernel
  exact congrArg SemLoc.dma (h k)
theorem sem_saa (k : Fin 7) {off : Fin 1 → ℕ} (ho : off = ![k.val]) {inb} {hq} :
    SemLoc.dma ((cc0_scratch11.slice (Rect.unit (s := S7) off S1.size inb)).squeeze S_ hq).sem = csem (.inr (k, .saa)) := by
  subst ho
  have h : ∀ k : Fin 7, ((cc0_scratch11.slice (Rect.unit (s := S7) ![k.val] S1.size (inb7 k))).squeeze S_ squeezes_S1_S_).sem
      = (⟨3 + 7 * (HK.saa).num.val + k.val, by omega⟩ : Fin 65) := by decide +kernel
  exact congrArg SemLoc.dma (h k)
theorem sem_raa (k : Fin 7) {off : Fin 1 → ℕ} (ho : off = ![k.val]) {inb} {hq} :
    SemLoc.dma ((cc0_scratch12.slice (Rect.unit (s := S7) off S1.size inb)).squeeze S_ hq).sem = csem (.inr (k, .raa)) := by
  subst ho
  have h : ∀ k : Fin 7, ((cc0_scratch12.slice (Rect.unit (s := S7) ![k.val] S1.size (inb7 k))).squeeze S_ squeezes_S1_S_).sem
      = (⟨3 + 7 * (HK.raa).num.val + k.val, by omega⟩ : Fin 65) := by decide +kernel
  exact congrArg SemLoc.dma (h k)
theorem sem_sxb (k : Fin 7) {off : Fin 1 → ℕ} (ho : off = ![k.val]) {inb} {hq} :
    SemLoc.dma ((cc0_scratch13.slice (Rect.unit (s := S7) off S1.size inb)).squeeze S_ hq).sem = csem (.inr (k, .sxb)) := by
  subst ho
  have h : ∀ k : Fin 7, ((cc0_scratch13.slice (Rect.unit (s := S7) ![k.val] S1.size (inb7 k))).squeeze S_ squeezes_S1_S_).sem
      = (⟨3 + 7 * (HK.sxb).num.val + k.val, by omega⟩ : Fin 65) := by decide +kernel
  exact congrArg SemLoc.dma (h k)
theorem sem_rxb (k : Fin 7) {off : Fin 1 → ℕ} (ho : off = ![k.val]) {inb} {hq} :
    SemLoc.dma ((cc0_scratch14.slice (Rect.unit (s := S7) off S1.size inb)).squeeze S_ hq).sem = csem (.inr (k, .rxb)) := by
  subst ho
  have h : ∀ k : Fin 7, ((cc0_scratch14.slice (Rect.unit (s := S7) ![k.val] S1.size (inb7 k))).squeeze S_ squeezes_S1_S_).sem
      = (⟨3 + 7 * (HK.rxb).num.val + k.val, by omega⟩ : Fin 65) := by decide +kernel
  exact congrArg SemLoc.dma (h k)
theorem sem_sab (k : Fin 7) {off : Fin 1 → ℕ} (ho : off = ![k.val]) {inb} {hq} :
    SemLoc.dma ((cc0_scratch15.slice (Rect.unit (s := S7) off S1.size inb)).squeeze S_ hq).sem = csem (.inr (k, .sab)) := by
  subst ho
  have h : ∀ k : Fin 7, ((cc0_scratch15.slice (Rect.unit (s := S7) ![k.val] S1.size (inb7 k))).squeeze S_ squeezes_S1_S_).sem
      = (⟨3 + 7 * (HK.sab).num.val + k.val, by omega⟩ : Fin 65) := by decide +kernel
  exact congrArg SemLoc.dma (h k)
theorem sem_rab (k : Fin 7) {off : Fin 1 → ℕ} (ho : off = ![k.val]) {inb} {hq} :
    SemLoc.dma ((cc0_scratch16.slice (Rect.unit (s := S7) off S1.size inb)).squeeze S_ hq).sem = csem (.inr (k, .rab)) := by
  subst ho
  have h : ∀ k : Fin 7, ((cc0_scratch16.slice (Rect.unit (s := S7) ![k.val] S1.size (inb7 k))).squeeze S_ squeezes_S1_S_).sem
      = (⟨3 + 7 * (HK.rab).num.val + k.val, by omega⟩ : Fin 65) := by decide +kernel
  exact congrArg SemLoc.dma (h k)
theorem sem_sfa : SemLoc.dma (cc0_scratch17.sem) = csem (.inl .sfa) := rfl
theorem sem_rfa : SemLoc.dma (cc0_scratch18.sem) = csem (.inl .rfa) := rfl
theorem sem_sfb : SemLoc.dma (cc0_scratch19.sem) = csem (.inl .sfb) := rfl
theorem sem_rfb : SemLoc.dma (cc0_scratch20.sem) = csem (.inl .rfb) := rfl

section

variable {α : Type} {Q : α → sProp (MT nD τ sig Unit (Elt F) ℕ UU ℕ)} (c : Dev nD)

/-- A local copy under way, with the rest of the half share it reads by. -/
def InFlW (sem : DmaSem sig) {sp sp' : Space} {s : Shape} {e : EltTy} (src : Memref sig .tc sp s e) (dst : Memref sig .tc sp' s e)
    (q : PosShare TreeShare) (fs : Buf (Elt F) (src.view.loc (c : Thread nD τ))) : sProp 𝕄 :=
  iprop(InFl c sem src dst q fs ∗ (src.view.loc (c : Thread nD τ) ↦[Finset.univ \ src.view.set]{q} fs))

theorem wp_issueW {sem sem' : DmaSem sig} (hs : sem' = sem) {sp cs' : Space} {s : Shape} {e : EltTy}
    {src src' : Memref sig .tc sp s e} (hsrc' : src' = src) {dst dst' : Memref sig .tc cs' s e} (hdst' : dst' = dst)
    (hpos : 0 < s.numel) (q : PosShare TreeShare) (fs : Buf (Elt F) (src.view.loc (c : Thread nD τ))) (Pd : (s.Idx → Elt F e) → Prop)
    {hsrc : src'.view.WordExact} {hdst : dst'.view.WordExact} {hsem : DmaTarget.Typed sp (.dma sem') (DmaTarget.here (nD := nD) (τ := τ) (p := .tc) dst')}
    {k : PUnit → Prog (TpuEff nD τ sig (Elt F) Λ₀ .tc) α} :
    iprop((src.view.loc (c : Thread nD τ) ↦{q} fs) ∗ Sl c dst Pd ∗ semVal ((c : Thread nD τ), SemLoc.dma sem) 0)
      ⊢ iprop((InFlW c sem src dst q fs -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sem') hsrc hdst hsem) k) Q) := by
  iintro ⟨Hs, Hd, Hv⟩ Hk
  ihave Hs := (pointsTo_split_subset (Finset.subset_univ src.view.set)).1 $$ Hs
  icases Hs with ⟨Hs, Hr⟩
  iapply (wp_issue c hs hsrc' hdst' hpos q fs Pd) $$ [Hs Hd Hv]
  · isplitl [Hs]; · iexact Hs
    isplitl [Hd]; · iexact Hd
    iexact Hv
  iintro HF
  iapply Hk
  unfold InFlW
  isplitl [HF]; · iexact HF
  iexact Hr

theorem wp_collectW {sem sem' : DmaSem sig} (hs : sem' = sem) {sp cs' : Space} {s : Shape} {e : EltTy}
    (src : Memref sig .tc sp s e) (dst : Memref sig .tc cs' s e) (q : PosShare TreeShare) (fs : Buf (Elt F) (src.view.loc (c : Thread nD τ)))
    (hk : kindOf (.dma sem) = none) (l : Debts) (hlev : ∀ p ∈ l, 0 < levOf (some p.2))
    {sp₁ cs₁ : Space} {s₁ s₂ : Shape} {e₁ e₂ : EltTy} {srcw : Memref sig .tc sp₁ s₁ e₁} {dstw : Memref sig .tc cs₁ s₂ e₂}
    (hN : dstw.view.dmaCredit = dst.view.dmaCredit)
    {hsrc : srcw.view.WordExact} {hdst : dstw.view.WordExact} {k : PUnit → Prog (TpuEff nD τ sig (Elt F) Λ₀ .tc) α} :
    iprop(levAts L lv ∗ InFlW c sem src dst q fs ∗ owesE c l)
      ⊢ iprop(((owesE c l ∗ semVal ((c : Thread nD τ), SemLoc.dma sem) 0 ∗ Sl c dst (fun v => v = src.view.read (Elt F) fs)
            ∗ (src.view.loc (c : Thread nD τ) ↦{q} fs)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem' srcw dstw hsrc hdst) k) Q) := by
  unfold InFlW
  iintro ⟨#Hlev, ⟨HF, Hr⟩, Ho⟩ Hk
  iapply (wp_collect c hs src dst q fs hk l hlev hN) $$ [HF Ho]
  · isplitr; · iexact Hlev
    isplitl [HF]; · iexact HF
    iexact Ho
  iintro ⟨Ho, Hv, Hd, Hs⟩
  iapply Hk
  isplitl [Ho]; · iexact Ho
  isplitl [Hv]; · iexact Hv
  isplitl [Hd]; · iexact Hd
  have hj : iprop((src.view.loc (c : Thread nD τ) ↦[src.view.set]{q} fs) ∗ (src.view.loc (c : Thread nD τ) ↦[Finset.univ \ src.view.set]{q} fs)) ⊢ (src.view.loc (c : Thread nD τ) ↦{q} fs : sProp (MT nD τ sig Unit (Elt F) ℕ UU ℕ)) :=
    (pointsTo_split_subset (Finset.subset_univ src.view.set)).2
  ihave H := hj $$ [Hs Hr]
  · isplitl [Hs]; · iexact Hs
    iexact Hr
  iexact H

omit [FloatOps F] in
theorem whole_idx {off : Fin 2 → ℕ} (ho : off = ![0, 0]) {inb : ∀ a, off a + S1024x1024.size a ≤ S1024x1024.size a} (x : S1024x1024.Idx) :
    (Rect.unit (s := S1024x1024) off S1024x1024.size inb).toLoadRect.idx x = x := by
  subst ho
  refine @funext (Fin 2) (fun a => Fin (S1024x1024.size a)) _ _ fun a => Fin.ext ?_
  fin_cases a
  · show 0 + 1 * (x 0).val = (x 0).val; omega
  · show 0 + 1 * (x 1).val = (x 1).val; omega

/-- A whole buffer of one block loaded. -/
theorem load_all {cs : CoreSpace} {e : EltTy} (M : Memref sig .tc cs S1024x1024 e) {inb} {hl : M.view.LoadsAt (Rect.unit (s := S1024x1024) ![0, 0] S1024x1024.size inb).toLoadRect}
    {k : (S1024x1024.Idx → Elt F e) → Prog (TpuEff nD τ sig (Elt F) Λ₀ .tc) α} (w : S1024x1024.Idx → Elt F e) :
    Sl c M (fun v => v = w) ⊢ iprop((Sl c M (fun v => v = w) -∗ wp frame (wpE (defs₀ (F := F)) 𝒱₀ (c : Thread nD τ) none) Set.univ (k w) Q)
      -∗ wp frame (wpE (defs₀ (F := F)) 𝒱₀ (c : Thread nD τ) none) Set.univ (.op (.load M (Rect.unit (s := S1024x1024) ![0, 0] S1024x1024.size inb).toLoadRect hl) k) Q) := by
  iintro H Hk
  iapply (load_view c M (fun v => v = w)) $$ H
  iintro %v %hv H
  subst hv
  have he : (fun x : S1024x1024.Idx => v ((Rect.unit (s := S1024x1024) ![0, 0] S1024x1024.size inb).toLoadRect.idx x)) = v :=
    funext fun x => congrArg v (whole_idx rfl x)
  have hk : k (fun x : S1024x1024.Idx => v ((Rect.unit (s := S1024x1024) ![0, 0] S1024x1024.size inb).toLoadRect.idx x)) = k v := congrArg k he
  iapply (.of_eq (congrArg (fun p => wp frame (wpE (defs₀ (F := F)) 𝒱₀ (c : Thread nD τ) none) Set.univ p Q) hk.symm) : _ ⊢ _)
  iapply Hk; iexact H

/-- A whole buffer loaded and the result not used. -/
theorem load_all_dead {cs : CoreSpace} {e : EltTy} (M : Memref sig .tc cs S1024x1024 e) {inb} {hl : M.view.LoadsAt (Rect.unit (s := S1024x1024) ![0, 0] S1024x1024.size inb).toLoadRect}
    {k : Prog (TpuEff nD τ sig (Elt F) Λ₀ .tc) α} (P : (S1024x1024.Idx → Elt F e) → Prop) :
    Sl c M P ⊢ iprop((Sl c M P -∗ wp frame (wpE (defs₀ (F := F)) 𝒱₀ (c : Thread nD τ) none) Set.univ k Q)
      -∗ wp frame (wpE (defs₀ (F := F)) 𝒱₀ (c : Thread nD τ) none) Set.univ (.op (.load M (Rect.unit (s := S1024x1024) ![0, 0] S1024x1024.size inb).toLoadRect hl) fun _ => k) Q) := by
  iintro H Hk
  iapply (load_view c M P) $$ H
  iintro %v %hv H
  iapply Hk; iexact H

/-- A whole buffer of one block stored. -/
theorem store_all {cs : CoreSpace} {e : EltTy} (M : Memref sig .tc cs S1024x1024 e) {inb} {w : S1024x1024.Idx → Elt F e}
    {hx : (M.access (Rect.unit (s := S1024x1024) ![0, 0] S1024x1024.size inb)).Stores Finset.univ} {hm}
    {k : PUnit → Prog (TpuEff nD τ sig (Elt F) Λ₀ .tc) α} (P : (S1024x1024.Idx → Elt F e) → Prop) :
    Sl c M P ⊢ iprop((Sl c M (fun v => v = w) -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := S1024x1024) ![0, 0] S1024x1024.size inb) w Finset.univ hx hm) k) Q) :=
  store_view c M P (fun v => v = w) (fun v v' _ h _ => funext fun x =>
    (congrArg v' (whole_idx (inb := inb) rfl x)).symm.trans (h x))

end

end Cert.Moe

end
-- ==== Proof.Expert.lean ====
/-
# One hop's experts

The eight local experts one after the other: expert `e`'s weights are read from main memory into one of two slots while the
expert before is multiplied; the products are summed into the two accumulators.
-/
module

public import proofs.«01_k».proof.Proof.Local

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's experts' weights. -/
abbrev wB (c : Dev nD) : Buf (Elt F) ((c : Thread nD τ).loc main_arg3) := m ((c : Thread nD τ).loc main_arg3)

/-- Slot `p` at rest: its staging block, the half of the weights it is filled by, its semaphore at zero. -/
def Free (c : Dev nD) (p : Fin 2) : sProp 𝕄 :=
  iprop(Sl c (stS p) anyv ∗ (((c : Thread nD τ).loc main_arg3) ↦{shr p} wB m c) ∗ semVal ((c : Thread nD τ), SemLoc.dma (sldS p)) 0)

/-- Slot `p` being filled with expert `e`. -/
def Busy (c : Dev nD) (p : Fin 2) (e : Fin 8) : sProp 𝕄 := InFlW c (sldS p) (wS e) (stS p) (shr p) (wB m c)

/-- The two slots before expert `e`: its weights on the way, the other slot at rest. -/
def Stage (c : Dev nD) (e : ℕ) : sProp 𝕄 :=
  iprop((if h : e < 8 then Busy m c (par e) ⟨e, h⟩ else Free m c (par e)) ∗ Free m c (par (e + 1)))

/-- Before expert `e`: the sums so far and the slots. -/
def I2 (c tA tB : Dev nD) (l : Debts) (e : ℕ) : sProp 𝕄 :=
  iprop(Sl c taM (fun v => v = sumA m c tA e) ∗ Sl c tbM (fun v => v = sumB m c tB e) ∗ Stage m c e ∗ owesE c l ∗ levAts L lv)

theorem trips2 : k0_t2_loop.trips = 8 := by decide
theorem cond2_iff : ∀ e : Fin k0_t2_loop.trips, k0_cond2 e = 1#1 ↔ e.val + 1 < 8 := by decide

theorem par_succ2 (e : ℕ) : par (e + 1 + 1) = par e := by unfold par; exact Fin.ext (by show (e + 1 + 1) % 2 = e % 2; omega)

section

variable {α : Type} {Q : α → sProp (MT nD τ sig Unit (Elt F) ℕ UU ℕ)} (c : Dev nD)

/-- Expert `e`'s weights asked for. -/
theorem issue_w (p : Fin 2) (e : Fin 8) {sem' : DmaSem sig} (hs : sem' = sldS p)
    {src' : Memref sig .tc .hbm S1024x1024 .f32} (hsrc' : src' = wS e) {dst' : Memref sig .tc .vmem S1024x1024 .f32} (hdst' : dst' = stS p)
    {hsrc : src'.view.WordExact} {hdst : dst'.view.WordExact} {hsem : DmaTarget.Typed .hbm (.dma sem') (DmaTarget.here (nD := nD) (τ := τ) (p := .tc) dst')}
    {k : PUnit → Prog (TpuEff nD τ sig (Elt F) Λ₀ .tc) α} :
    Free m c p ⊢ iprop((Busy m c p e -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sem') hsrc hdst hsem) k) Q) := by
  unfold Free Busy
  iintro ⟨Hd, Hs, Hv⟩
  iapply (wp_issueW c hs hsrc' hdst' (by decide) (shr p) (wB m c) anyv)
  isplitl [Hs]; · iexact Hs
  isplitl [Hd]; · iexact Hd
  iexact Hv

/-- Expert `e`'s weights arrived and read. -/
theorem collect_w (p : Fin 2) (e : Fin 8) {sem' : DmaSem sig} (hs : sem' = sldS p) (l : Debts) (hlev : ∀ q ∈ l, 0 < levOf (some q.2))
    {sp₁ cs₁ : Space} {s₁ : Shape} {e₁ : EltTy} {srcw : Memref sig .tc sp₁ s₁ e₁} {dstw : Memref sig .tc cs₁ S1024x1024 .f32}
    {hsrc : srcw.view.WordExact} {hdst : dstw.view.WordExact}
    {off : Fin 3 → ℕ} (ho : off = ![p.val, 0, 0]) {inb} {hl : stM.view.LoadsAt (Rect.unit (s := S2x1024x1024) off S1x1024x1024.size inb).toLoadRect}
    {k : (S1x1024x1024.Idx → Elt F .f32) → Prog (TpuEff nD τ sig (Elt F) Λ₀ .tc) α} :
    iprop(levAts L lv ∗ Busy m c p e ∗ owesE c l)
      ⊢ iprop(((owesE c l ∗ Free m c p) -∗ wp frame (wpE (defs₀ (F := F)) 𝒱₀ (c : Thread nD τ) none) Set.univ (k (un (wV m c e))) Q)
          -∗ wp frame (wpE (defs₀ (F := F)) 𝒱₀ (c : Thread nD τ) none) Set.univ (.op (.waitDma2 sem' srcw dstw hsrc hdst) fun _ =>
            .op (.load stM (Rect.unit (s := S2x1024x1024) off S1x1024x1024.size inb).toLoadRect hl) k) Q) := by
  subst ho
  unfold Free Busy
  iintro ⟨#Hlev, HB, Ho⟩ Hk
  iapply (wp_collectW c hs (wS e) (stS p) (shr p) (wB m c) (kind_sld p) l hlev (show dstw.view.dmaCredit = (stS p).view.dmaCredit from rfl)) $$ [HB Ho]
  · isplitr; · iexact Hlev
    isplitl [HB]; · iexact HB
    iexact Ho
  iintro ⟨Ho, Hv, Hd, Hs⟩
  have hd : Sl c (stS p) (fun v => v = (wS e).view.read (Elt F) (wB m c)) ⊢ Sl c (stS p) (isB (un (wV m c e))) :=
    Sl_mono c _ (fun v hv => by subst hv; exact isB_un _)
  ihave Hd := hd $$ Hd
  iapply (load_slot_isW c stM (rA p) (fun _ => rfl) squeezes_S1x1024x1024_S1024x1024 (un (wV m c e))) $$ Hd
  iintro Hd
  iapply Hk
  isplitl [Ho]; · iexact Ho
  isplitl [Hd]; · iapply Sl_any; iexact Hd
  isplitl [Hs]; · iexact Hs
  iexact Hv

end

/-- One expert of one hop. -/
theorem t2_step (c tA tB : Dev nD) (l : Debts) (hl : ∀ q ∈ l, 0 < levOf (some q.2)) (v5 v7 : BitVec 32) (v50 : FVec F S1024x1024 .bf16) (v51 : Vec F S1x1024x1024 .bf16)
    (e : Fin k0_t2_loop.trips) (u : Unit) :
    I2 m c tA tB l e.val ⊢ wp frame (wpE (defs₀ (F := F)) 𝒱₀ (c : Thread nD τ) none) Set.univ
      (k0_t2_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) v50 v51 (k0_pay10 (tokA m tA)) (k0_pay11 (col 0 (numA m tA))) (k0_pay12 (col 1 (numA m tA))) (k0_pay17 (k0_pay14 (rtr m c) (tokA m tA) (col 0 (numA m tA))) (k0_pay15 (rtr m c) (tokA m tA) (col 1 (numA m tA)))) (k0_pay18 (k0_pay14 (rtr m c) (tokA m tA) (col 0 (numA m tA))) (k0_pay15 (rtr m c) (tokA m tA) (col 1 (numA m tA)))) (k0_pay19 (tokB m tB)) (k0_pay20 (col 0 (numB m tB))) (k0_pay21 (col 1 (numB m tB))) (k0_pay25 (rtr m c) (tokB m tB) (col 0 (numB m tB)) (col 1 (numB m tB))) (k0_pay26 (rtr m c) (tokB m tB) (col 0 (numB m tB)) (col 1 (numB m tB))) e u)
      (fun _ => I2 m c tA tB l (e.val + 1)) := by
  have he : e.val < 8 := trips2 ▸ e.isLt
  have hA : sumA m c tA (e.val + 1) = _ := dif_pos e.isLt
  have hB : sumB m c tB (e.val + 1) = _ := dif_pos e.isLt
  unfold k0_t2_body
  simp only [k0_part3_eq_skeleton]
  unfold k0_part3_skel
  unfold I2 Stage
  rw [dif_pos he]
  iintro ⟨Ha, Hb, ⟨HB, HF⟩, Ho, #Hlev⟩
  by_cases h2 : e.val + 1 < 8
  · rw [dif_pos h2, dif_pos ((cond2_iff e).2 h2)]
    simp only [Prog.lift, Prog.bind_op, Prog.bind_ret, Prog.pure_eq_ret]
    iapply (issue_w m c (par (e.val + 1)) ⟨e.val + 1, h2⟩ (sem_sld _ (k0_off9_eq e)) (slot_congr wM (k0_off11_eq e)) (slot_congr stM (k0_off10_eq e))) $$ HF
    iintro HF
    iapply (collect_w m c (par e.val) ⟨e.val, he⟩ (sem_sld _ (k0_off12_eq e)) l hl (k0_off15_eq e)) $$ [HB Ho]
    · isplitr; · iexact Hlev
      isplitl [HB]; · iexact HB
      iexact Ho
    iintro ⟨Ho, HB⟩
    iapply (load_all c taM (sumA m c tA e.val)) $$ Ha
    iintro Ha
    iapply (load_all_dead c taM _) $$ Ha
    iintro Ha
    iapply (store_all c taM _) $$ Ha
    iintro Ha
    iapply (load_all c tbM (sumB m c tB e.val)) $$ Hb
    iintro Hb
    iapply (load_all_dead c tbM _) $$ Hb
    iintro Hb
    iapply (store_all c tbM _) $$ Hb
    iintro Hb
    rw [wp_ret]; imodintro
    isplitl [Ha]
    · rw [hA]; iexact Ha
    isplitl [Hb]
    · rw [hB]; iexact Hb
    rw [par_succ2]
    isplitl [HF HB]
    · isplitl [HF]; · iexact HF
      iexact HB
    isplitl [Ho]; · iexact Ho
    iexact Hlev
  · rw [dif_neg h2, dif_neg (fun h => h2 ((cond2_iff e).1 h))]
    simp only [Prog.lift, Prog.bind_op, Prog.bind_ret, Prog.pure_eq_ret]
    iapply (collect_w m c (par e.val) ⟨e.val, he⟩ (sem_sld _ (k0_off12_eq e)) l hl (k0_off15_eq e)) $$ [HB Ho]
    · isplitr; · iexact Hlev
      isplitl [HB]; · iexact HB
      iexact Ho
    iintro ⟨Ho, HB⟩
    iapply (load_all c taM (sumA m c tA e.val)) $$ Ha
    iintro Ha
    iapply (load_all_dead c taM _) $$ Ha
    iintro Ha
    iapply (store_all c taM _) $$ Ha
    iintro Ha
    iapply (load_all c tbM (sumB m c tB e.val)) $$ Hb
    iintro Hb
    iapply (load_all_dead c tbM _) $$ Hb
    iintro Hb
    iapply (store_all c tbM _) $$ Hb
    iintro Hb
    rw [wp_ret]; imodintro
    isplitl [Ha]
    · rw [hA]; iexact Ha
    isplitl [Hb]
    · rw [hB]; iexact Hb
    rw [par_succ2]
    isplitl [HF HB]
    · isplitl [HF]; · iexact HF
      iexact HB
    isplitl [Ho]; · iexact Ho
    iexact Hlev

end Cert.Moe

end
-- ==== Proof.Hop.lean ====
/-
# One hop

What device `c` holds when a hop begins (`Mem` its slots and its neighbours' free ones, `Gh` its positions and tickets), and the
hop's run: the exchange of tokens, the partial sums sent on, the experts, the sums that arrived added to.
-/
module

public import proofs.«01_k».proof.Proof.Expert

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state between hops -/

/-- The slots before a hop: the tokens held, the sums held, the free slots and the neighbours' free ones. -/
def Mem (c : Dev nD) : ℕ → sProp 𝕄
  | 0 => iprop(Sl c (xaS 0) (isTok (tokA m c) (numA m c)) ∗ Sl c (xbS 0) (isTok (tokB m c) (numB m c))
      ∗ Sl c (aaS 0) anyv ∗ Sl c (abS 0) anyv ∗ Sl c (aaS 1) anyv ∗ Sl c (abS 1) anyv ∗ Sl (nxt c) (xaS 1) anyv ∗ Sl (prv c) (xbS 1) anyv)
  | k + 1 => iprop(Sl c (xaS (par k)) (isTok (tokA m (bk c k)) (numA m (bk c k))) ∗ Sl c (xbS (par k)) (isTok (tokB m (fw c k)) (numB m (fw c k)))
      ∗ Sl c (aaS (par k)) (isB (accA m c k)) ∗ Sl c (abS (par k)) (isB (accB m c k))
      ∗ Sl c (aaS (par (k + 1))) anyv ∗ Sl c (abS (par (k + 1))) anyv
      ∗ (if k < 7 then iprop(Sl (nxt c) (xaS (par (k + 1))) anyv ∗ Sl (prv c) (xbS (par (k + 1))) anyv)
          else iprop(Sl c (xaS (par (k + 1))) anyv ∗ Sl c (xbS (par (k + 1))) anyv)))

/-- Hop `k + 1` to come: device `c`'s place on its own eight cells, the tickets of its four transfers, the credits of the four it
    will receive. -/
def HopG (c : Dev nD) (k : Fin 7) : sProp 𝕄 :=
  iprop((atPos ER (cell c (.inr (k, .sxa))) 0 ∅ 0 ∗ dutyTok ER (cell c (.inr (k, .sxa))) 0 false)
    ∗ (atPos ER (cell c (.inr (k, .rxa))) 0 ∅ 0 ∗ cred (tallyAt (cell c (.inr (k, .rxa))) () (amt (.inr (k, .rxa)))) ∗ dutyTok ER (cell (nxt c) (.inr (k, .rxa))) 0 false)
    ∗ (atPos ER (cell c (.inr (k, .saa))) 0 ∅ 0 ∗ dutyTok ER (cell c (.inr (k, .saa))) 0 false)
    ∗ (atPos ER (cell c (.inr (k, .raa))) 0 ∅ 0 ∗ cred (tallyAt (cell c (.inr (k, .raa))) () (amt (.inr (k, .raa)))) ∗ dutyTok ER (cell (nxt c) (.inr (k, .raa))) 0 false)
    ∗ (atPos ER (cell c (.inr (k, .sxb))) 0 ∅ 0 ∗ dutyTok ER (cell c (.inr (k, .sxb))) 0 false)
    ∗ (atPos ER (cell c (.inr (k, .rxb))) 0 ∅ 0 ∗ cred (tallyAt (cell c (.inr (k, .rxb))) () (amt (.inr (k, .rxb)))) ∗ dutyTok ER (cell (prv c) (.inr (k, .rxb))) 0 false)
    ∗ (atPos ER (cell c (.inr (k, .sab))) 0 ∅ 0 ∗ dutyTok ER (cell c (.inr (k, .sab))) 0 false)
    ∗ (atPos ER (cell c (.inr (k, .rab))) 0 ∅ 0 ∗ cred (tallyAt (cell c (.inr (k, .rab))) () (amt (.inr (k, .rab)))) ∗ dutyTok ER (cell (prv c) (.inr (k, .rab))) 0 false))

/-- Hop `k + 1` done: the eight cells closed. -/
def HopD (c : Dev nD) (k : Fin 7) : sProp 𝕄 :=
  iprop(semVal (cell c (.inr (k, .sxa))) 0 ∗ semVal (cell c (.inr (k, .rxa))) 0 ∗ semVal (cell c (.inr (k, .saa))) 0 ∗ semVal (cell c (.inr (k, .raa))) 0
    ∗ semVal (cell c (.inr (k, .sxb))) 0 ∗ semVal (cell c (.inr (k, .rxb))) 0 ∗ semVal (cell c (.inr (k, .sab))) 0 ∗ semVal (cell c (.inr (k, .rab))) 0)

/-- Before hop `h`: the hops done and the ones to come. -/
def Gh (c : Dev nD) (h : ℕ) : sProp 𝕄 := bigSep Finset.univ fun k : Fin 7 => if h ≤ k.val + 1 then HopG c k else HopD c k

theorem Gh_zero (c : Dev nD) : (Gh c 0 : sProp 𝕄) = Gh c 1 := rfl

theorem Gh_hop (c : Dev nD) (k : Fin 7) : (Gh c (k.val + 1) : sProp 𝕄) ⊢ iprop(HopG c k ∗ (HopD c k -∗ Gh c (k.val + 2))) := by
  have h1 : (Gh c (k.val + 1) : sProp 𝕄) = iprop(HopG c k ∗ bigSep (Finset.univ.erase k) fun j : Fin 7 => if k.val + 1 ≤ j.val + 1 then HopG c j else HopD c j) := by
    unfold Gh
    rw [bigSep_erase (Finset.mem_univ k), if_pos (Nat.le_refl _)]; rfl
  have h2 : (Gh c (k.val + 2) : sProp 𝕄) = iprop(HopD c k ∗ bigSep (Finset.univ.erase k) fun j : Fin 7 => if k.val + 1 ≤ j.val + 1 then HopG c j else HopD c j) := by
    unfold Gh
    rw [bigSep_erase (Finset.mem_univ k), if_neg (by omega)]
    refine congrArg (fun X => iprop(HopD c k ∗ X)) (bigSep_congr fun j hj => ?_)
    have hne : j.val ≠ k.val := fun h => (Finset.mem_erase.mp hj).1 (Fin.ext h)
    by_cases h : k.val + 1 ≤ j.val + 1
    · rw [if_pos h, if_pos (by omega)]
    · rw [if_neg h, if_neg (by omega)]
  rw [h1, h2]
  iintro ⟨H, HE⟩
  isplitl [H]; · iexact H
  iintro HD
  isplitl [HD]; · iexact HD
  iexact HE

/-- What a hop begins with. -/
def I1 (K : Dev nD × CK → ℕ) (c : Dev nD) (h : ℕ) : sProp 𝕄 :=
  iprop(Mem m c h ∗ Sl c taM anyv ∗ Sl c tbM anyv ∗ Free m c 0 ∗ Free m c 1 ∗ Gh c h ∗ owesE c (debtsFrom c h) ∗ records m K ∗ levAts L lv)

/-! ## Conditions, offsets, levels -/

theorem trips1 : k0_t1_loop.trips = 8 := by decide
theorem cond1_iff : ∀ t : Fin k0_t1_loop.trips, k0_cond1 t = 1#1 ↔ t.val ≠ 0 := by decide
theorem cond4_iff : ∀ t : Fin k0_t1_loop.trips, k0_cond4 t = 1#1 ↔ t.val ≠ 0 := by decide
theorem cond3_iff : ∀ t : Fin k0_t1_loop.trips, Scalar.cmpi .ne (Scalar.extui (Scalar.cmpi .eq (Scf.iv 0#32 1#32 t) 0#32)) 0#32 = 1#1 ↔ t.val = 0 := by decide
theorem off1_at : ∀ (t : Fin k0_t1_loop.trips) (k : Fin 7), t.val = k.val + 1 → k0_off1 t = ![k.val] := by decide
theorem off16_at : ∀ (t : Fin k0_t1_loop.trips) (k : Fin 7), t.val = k.val + 1 → k0_off16 t = ![k.val] := by decide

theorem off_even {off : Fin 3 → ℕ} {t k : ℕ} (h : off = ![t % 2, 0, 0]) (hk : t = k + 1) : off = ![(par (k + 1)).val, 0, 0] := by
  subst hk; exact h
theorem off_odd {off : Fin 3 → ℕ} {t k : ℕ} (h : off = ![(t + 1) % 2, 0, 0]) (hk : t = k + 1) : off = ![(par k).val, 0, 0] := by
  subst hk
  have : (k + 1 + 1) % 2 = (par k).val := by show (k + 1 + 1) % 2 = k % 2; omega
  rw [← this]; exact h

theorem lev_tail (c : Dev nD) (k : Fin 7) : ∀ p ∈ debtsFrom c (k.val + 2), 2 * k.val + 3 < levOf (some p.2) := fun p hp => by
  have h := debtsFrom_lev c (k.val + 2) p hp
  have := k.isLt
  omega
theorem lev_mid (c : Dev nD) (k : Fin 7) : ∀ p ∈ (nxt c, (.inr (k, .raa) : CK)) :: (prv c, (.inr (k, .rab) : CK)) :: debtsFrom c (k.val + 2), 2 * k.val + 2 < levOf (some p.2) := fun p hp => by
  rcases List.mem_cons.mp hp with rfl | hp
  · show 2 * k.val + 2 < 2 * k.val + 3; omega
  rcases List.mem_cons.mp hp with rfl | hp
  · show 2 * k.val + 2 < 2 * k.val + 3; omega
  exact lt_trans (Nat.lt_succ_self _) (lev_tail c k p hp)
theorem lev_pos (c : Dev nD) (h : ℕ) : ∀ p ∈ debtsFrom c h, 0 < levOf (some p.2) := fun p hp => by
  have h := debtsFrom_lev c h p hp
  omega

/-! ## What each transfer's arrival is worth -/

section
variable (c : Dev nD) (k : Fin 7)

theorem pay_sxa {X I} : Sl c (xaS (par k)) (isTok X I) ⊢ pay m c false (.inr (k, .sxa)) := Sl_any c _
theorem pay_sxb {X I} : Sl c (xbS (par k)) (isTok X I) ⊢ pay m c false (.inr (k, .sxb)) := Sl_any c _
theorem pay_saa {w} : Sl c (aaS (par k)) (isB w) ⊢ pay m c false (.inr (k, .saa)) := Sl_any c _
theorem pay_sab {w} : Sl c (abS (par k)) (isB w) ⊢ pay m c false (.inr (k, .sab)) := Sl_any c _

theorem pay_rxa : iprop(Sl (nxt c) (xaS (par (k.val + 1))) (isTok (tokA m (bk c k)) (numA m (bk c k))) ∗ Sl c (abS (par (k.val + 1))) anyv)
    ⊢ pay m (nxt c) false (.inr (k, .rxa)) := by
  show _ ⊢ iprop(Sl (nxt c) (xaS (par (k + 1))) (isTok (tokA m (bk (nxt c) (k + 1))) (numA m (bk (nxt c) (k + 1)))) ∗ Sl (prv (nxt c)) (abS (par (k + 1))) anyv)
  rw [bk_nxt, prv_nxt]
theorem pay_rxb : iprop(Sl (prv c) (xbS (par (k.val + 1))) (isTok (tokB m (fw c k)) (numB m (fw c k))) ∗ Sl c (aaS (par (k.val + 1))) anyv)
    ⊢ pay m (prv c) false (.inr (k, .rxb)) := by
  show _ ⊢ iprop(Sl (prv c) (xbS (par (k + 1))) (isTok (tokB m (fw (prv c) (k + 1))) (numB m (fw (prv c) (k + 1)))) ∗ Sl (nxt (prv c)) (aaS (par (k + 1))) anyv)
  rw [fw_prv, nxt_prv]
theorem pay_raa : iprop(Sl (nxt c) (aaS (par (k.val + 1))) (isB (accA m c k)) ∗ if k.val < 6 then Sl c (xbS (par k)) anyv else emp)
    ⊢ pay m (nxt c) false (.inr (k, .raa)) := by
  show _ ⊢ iprop(Sl (nxt c) (aaS (par (k + 1))) (isB (accA m (prv (nxt c)) k)) ∗ if k.val < 6 then Sl (prv (nxt c)) (xbS (par k)) anyv else emp)
  rw [prv_nxt]
theorem pay_rab : iprop(Sl (prv c) (abS (par (k.val + 1))) (isB (accB m c k)) ∗ if k.val < 6 then Sl c (xaS (par k)) anyv else emp)
    ⊢ pay m (prv c) false (.inr (k, .rab)) := by
  show _ ⊢ iprop(Sl (prv c) (abS (par (k + 1))) (isB (accB m (nxt (prv c)) k)) ∗ if k.val < 6 then Sl (nxt (prv c)) (xaS (par k)) anyv else emp)
  rw [nxt_prv]

end

/-! ## Waits of known size; loads and stores of a slot of sums -/

section
variable {α : Type} {Q : α → sProp (MT nD τ sig Unit (Elt F) ℕ UU ℕ)} (K : Dev nD × CK → ℕ) (c : Dev nD)

theorem xwaitX (k₀ : CK) (hbar : k₀ ≠ .inl .bar) (ha : amt k₀ = NX) {sem : DmaSem sig} (hs : SemLoc.dma sem = csem k₀)
    {cs cs' : CoreSpace} {s : Shape} {e : EltTy} {srcw : Memref sig .tc cs s e} {dstw : Memref sig .tc cs' S1024x1152 .bf16}
    (l : Debts) (hlev : ∀ p ∈ l, levOf (some k₀) < levOf (some p.2))
    {hsrc : srcw.view.WordExact} {hdst : dstw.view.WordExact} {k : PUnit → Prog (TpuEff nD τ sig (Elt F) Λ₀ .tc) α} :
    iprop(records m K ∗ levAts L lv ∗ cred (tallyAt (cell c k₀) () (amt k₀)) ∗ owesE c l ∗ atPos ER (cell c k₀) 0 ∅ 0)
      ⊢ iprop(((owesE c l ∗ semVal (cell c k₀) 0 ∗ pay m c false k₀) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) :=
  wp_xwait m K c k₀ hbar hs ((show dstw.view.dmaCredit = NX from rfl).trans ha.symm) l hlev

theorem xwaitA (k₀ : CK) (hbar : k₀ ≠ .inl .bar) (ha : amt k₀ = NA) {sem : DmaSem sig} (hs : SemLoc.dma sem = csem k₀)
    {cs cs' : CoreSpace} {s : Shape} {e : EltTy} {srcw : Memref sig .tc cs s e} {dstw : Memref sig .tc cs' S1024x1024 .bf16}
    (l : Debts) (hlev : ∀ p ∈ l, levOf (some k₀) < levOf (some p.2))
    {hsrc : srcw.view.WordExact} {hdst : dstw.view.WordExact} {k : PUnit → Prog (TpuEff nD τ sig (Elt F) Λ₀ .tc) α} :
    iprop(records m K ∗ levAts L lv ∗ cred (tallyAt (cell c k₀) () (amt k₀)) ∗ owesE c l ∗ atPos ER (cell c k₀) 0 ∅ 0)
      ⊢ iprop(((owesE c l ∗ semVal (cell c k₀) 0 ∗ pay m c false k₀) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) :=
  wp_xwait m K c k₀ hbar hs ((show dstw.view.dmaCredit = NA from rfl).trans ha.symm) l hlev

variable {cs : CoreSpace} {e : EltTy} (M : Memref sig .tc cs S2x1024x1024 e) (p : Fin 2)

abbrev blkS : Memref sig .tc cs S1024x1024 e := (M.slice (rA p) (fun _ => rfl)).squeeze S1024x1024 squeezes_S1x1024x1024_S1024x1024

theorem load_blk {off : Fin 3 → ℕ} (ho : off = ![p.val, 0, 0]) {inb} {hl : M.view.LoadsAt (Rect.unit (s := S2x1024x1024) off S1x1024x1024.size inb).toLoadRect}
    {k : (S1x1024x1024.Idx → Elt F e) → Prog (TpuEff nD τ sig (Elt F) Λ₀ .tc) α} (w : S1x1024x1024.Idx → Elt F e) :
    Sl c (blkS M p) (isB w) ⊢ iprop((Sl c (blkS M p) (isB w)
        -∗ wp frame (wpE (defs₀ (F := F)) 𝒱₀ (c : Thread nD τ) none) Set.univ (k w) Q)
      -∗ wp frame (wpE (defs₀ (F := F)) 𝒱₀ (c : Thread nD τ) none) Set.univ (.op (.load M (Rect.unit (s := S2x1024x1024) off S1x1024x1024.size inb).toLoadRect hl) k) Q) := by
  subst ho
  exact load_slot_isW c M (rA p) (fun _ => rfl) squeezes_S1x1024x1024_S1024x1024 w

theorem load_blk_dead {off : Fin 3 → ℕ} (ho : off = ![p.val, 0, 0]) {inb} {hl : M.view.LoadsAt (Rect.unit (s := S2x1024x1024) off S1x1024x1024.size inb).toLoadRect}
    {k : Prog (TpuEff nD τ sig (Elt F) Λ₀ .tc) α} (P : (S1024x1024.Idx → Elt F e) → Prop) :
    Sl c (blkS M p) P ⊢ iprop((Sl c (blkS M p) P -∗ wp frame (wpE (defs₀ (F := F)) 𝒱₀ (c : Thread nD τ) none) Set.univ k Q)
      -∗ wp frame (wpE (defs₀ (F := F)) 𝒱₀ (c : Thread nD τ) none) Set.univ (.op (.load M (Rect.unit (s := S2x1024x1024) off S1x1024x1024.size inb).toLoadRect hl) fun _ => k) Q) := by
  subst ho
  iintro H Hk
  iapply (load_slot_full c M (rA p) (fun _ => rfl) squeezes_S1x1024x1024_S1024x1024 P) $$ H
  iintro %w %hw H
  iapply Hk; iexact H

theorem store_blk {off : Fin 3 → ℕ} (ho : off = ![p.val, 0, 0]) {inb : ∀ a, off a + S1x1024x1024.size a ≤ S2x1024x1024.size a} {w : S1x1024x1024.Idx → Elt F e}
    {hx : (M.access (Rect.unit (s := S2x1024x1024) off S1x1024x1024.size inb)).Stores Finset.univ} {hm}
    {k : PUnit → Prog (TpuEff nD τ sig (Elt F) Λ₀ .tc) α} (P : (S1024x1024.Idx → Elt F e) → Prop) :
    Sl c (blkS M p) P ⊢ iprop((Sl c (blkS M p) (isB w)
        -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := S2x1024x1024) off S1x1024x1024.size inb) w Finset.univ hx hm) k) Q) := by
  subst ho
  exact store_slot_full c M (rA p) (fun _ => rfl) squeezes_S1x1024x1024_S1024x1024 P

end

end Cert.Moe

end
-- ==== Proof.StepBase.lean ====
/-
# A hop's state, part by part
-/
module

public import proofs.«01_k».proof.Proof.Hop

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem Mem_zero (c : Dev nD) : Mem m c 0 = iprop(Sl c (xaS 0) (isTok (tokA m c) (numA m c)) ∗ Sl c (xbS 0) (isTok (tokB m c) (numB m c))
      ∗ Sl c (aaS 0) anyv ∗ Sl c (abS 0) anyv ∗ Sl c (aaS 1) anyv ∗ Sl c (abS 1) anyv ∗ Sl (nxt c) (xaS 1) anyv ∗ Sl (prv c) (xbS 1) anyv) := rfl
theorem Mem_succ (c : Dev nD) (k : ℕ) : Mem m c (k + 1) =
    iprop(Sl c (xaS (par k)) (isTok (tokA m (bk c k)) (numA m (bk c k))) ∗ Sl c (xbS (par k)) (isTok (tokB m (fw c k)) (numB m (fw c k)))
      ∗ Sl c (aaS (par k)) (isB (accA m c k)) ∗ Sl c (abS (par k)) (isB (accB m c k))
      ∗ Sl c (aaS (par (k + 1))) anyv ∗ Sl c (abS (par (k + 1))) anyv
      ∗ (if k < 7 then iprop(Sl (nxt c) (xaS (par (k + 1))) anyv ∗ Sl (prv c) (xbS (par (k + 1))) anyv)
          else iprop(Sl c (xaS (par (k + 1))) anyv ∗ Sl c (xbS (par (k + 1))) anyv))) := rfl

/-- The slots after the last expert. -/
theorem I2_end (c tA tB : Dev nD) (l : Debts) : I2 m c tA tB l 8
    = iprop(Sl c taM (fun v => v = sumA m c tA 8) ∗ Sl c tbM (fun v => v = sumB m c tB 8) ∗ (Free m c 0 ∗ Free m c 1) ∗ owesE c l ∗ levAts L lv) := by
  unfold I2 Stage
  rw [dif_neg (by decide)]
  rfl

/-- A slot sent with the sums, except at the last hop, which keeps it. -/
theorem give_or (c : Dev nD) (k : Fin 7) {s : Shape} {e : EltTy} (M : Memref sig .tc .vmem s e) :
    (Sl c M anyv : sProp 𝕄) ⊢ iprop((if k.val < 6 then Sl c M anyv else iprop(emp)) ∗ (if k.val < 6 then iprop(emp) else Sl c M anyv)) := by
  by_cases h : k.val < 6
  · rw [if_pos h, if_pos h]
    iintro H
    isplitl [H]; · iexact H
    iempintro
  · rw [if_neg h, if_neg h]
    iintro H
    isplitr; · iempintro
    iexact H

/-- The slots free for the next hop: the neighbours', or at the end one's own. -/
theorem free_next (c : Dev nD) (k : Fin 7) :
    iprop((if k.val < 6 then Sl (nxt c) (xaS (par k.val)) anyv else iprop(emp)) ∗ (if k.val < 6 then Sl (prv c) (xbS (par k.val)) anyv else iprop(emp))
      ∗ (if k.val < 6 then iprop(emp) else Sl c (xaS (par k.val)) anyv) ∗ (if k.val < 6 then iprop(emp) else Sl c (xbS (par k.val)) anyv))
    ⊢ (if k.val + 1 < 7 then iprop(Sl (nxt c) (xaS (par (k.val + 1 + 1))) anyv ∗ Sl (prv c) (xbS (par (k.val + 1 + 1))) anyv)
          else iprop(Sl c (xaS (par (k.val + 1 + 1))) anyv ∗ Sl c (xbS (par (k.val + 1 + 1))) anyv) : sProp 𝕄) := by
  rw [par_succ2]
  by_cases h : k.val < 6
  · rw [if_pos h, if_pos h, if_pos h, if_pos h, if_pos (by omega)]
    iintro ⟨H1, H2, -, -⟩
    isplitl [H1]; · iexact H1
    iexact H2
  · rw [if_neg h, if_neg h, if_neg h, if_neg h, if_neg (by omega)]
    iintro ⟨-, -, H1, H2⟩
    isplitl [H1]; · iexact H1
    iexact H2

section
variable (c : Dev nD) (k : Fin 7)
theorem got_sxa : pay m c false (.inr (k, .sxa)) ⊢ Sl c (xaS (par k)) anyv := .rfl
theorem got_sxb : pay m c false (.inr (k, .sxb)) ⊢ Sl c (xbS (par k)) anyv := .rfl
theorem got_saa : pay m c false (.inr (k, .saa)) ⊢ Sl c (aaS (par k)) anyv := .rfl
theorem got_sab : pay m c false (.inr (k, .sab)) ⊢ Sl c (abS (par k)) anyv := .rfl
theorem got_rxa : pay m c false (.inr (k, .rxa)) ⊢ iprop(Sl c (xaS (par (k.val + 1))) (isTok (tokA m (bk c (k.val + 1))) (numA m (bk c (k.val + 1)))) ∗ Sl (prv c) (abS (par (k.val + 1))) anyv) := .rfl
theorem got_rxb : pay m c false (.inr (k, .rxb)) ⊢ iprop(Sl c (xbS (par (k.val + 1))) (isTok (tokB m (fw c (k.val + 1))) (numB m (fw c (k.val + 1)))) ∗ Sl (nxt c) (aaS (par (k.val + 1))) anyv) := .rfl
theorem got_raa : pay m c false (.inr (k, .raa)) ⊢ iprop(Sl c (aaS (par (k.val + 1))) (isB (accA m (prv c) k.val)) ∗ if k.val < 6 then Sl (prv c) (xbS (par k.val)) anyv else iprop(emp)) := .rfl
theorem got_rab : pay m c false (.inr (k, .rab)) ⊢ iprop(Sl c (abS (par (k.val + 1))) (isB (accB m (nxt c) k.val)) ∗ if k.val < 6 then Sl (nxt c) (xaS (par k.val)) anyv else iprop(emp)) := .rfl
end

theorem amtX (k : Fin 7) (j : HK) (h : j.isX = true) : amt (.inr (k, j)) = NX := if_pos h
theorem amtA (k : Fin 7) (j : HK) (h : j.isX = false) : amt (.inr (k, j)) = NA := if_neg (by rw [h]; decide)

section
variable {α : Type} {Q : α → sProp (MT nD τ sig Unit (Elt F) ℕ UU ℕ)} (K : Dev nD × CK → ℕ) (c : Dev nD) (k : Fin 7)

theorem send_xa {n' : Dev nD} (hn : n' = nxt c) {src' : Memref sig .tc .vmem S1024x1152 .bf16} (hsrc' : src' = xaS (par k.val))
    {dst' : Memref sig .tc .vmem S1024x1152 .bf16} (hdst' : dst' = xaS (par (k.val + 1)))
    {ss rs : DmaSem sig} (hss : SemLoc.dma ss = csem (.inr (k, .sxa))) (hrs : SemLoc.dma rs = csem (.inr (k, .rxa))) (l : Debts)
    {hsc : dst'.view.ref.isScScratch = false} {hsrc : src'.view.WordExact} {hdst : dst'.view.WordExact}
    {hsem : DmaTarget.Typed .vmem (.dma rs) (.remote (Dev.tc n' : Thread nD τ) dst' (.dma ss) hsc)}
    {kk : PUnit → Prog (TpuEff nD τ sig (Elt F) Λ₀ .tc) α} :
    iprop(records m K ∗ Sl c (xaS (par k.val)) (isTok (tokA m (bk c k)) (numA m (bk c k))) ∗ Sl (nxt c) (xaS (par (k.val + 1))) anyv ∗ (Sl c (abS (par (k.val + 1))) anyv)
        ∗ owesE c ((nxt c, .inr (k, .rxa)) :: l) ∗ dutyTok ER (cell c (.inr (k, .sxa))) 0 false ∗ dutyTok ER (cell (nxt c) (.inr (k, .rxa))) 0 false)
      ⊢ iprop(((cred (tallyAt (cell c (.inr (k, .sxa))) () (amt (.inr (k, .sxa)))) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc n' : Thread nD τ) dst' (.dma ss) hsc) (.dma rs) hsrc hdst hsem) kk) Q) :=
  wp_xsend m K c hn hsrc' hdst' (.inr (k, .sxa)) (.inr (k, .rxa)) hss hrs
    ((show (xaS (par (k.val + 1))).view.dmaCredit = NX from rfl).trans (amtX k .rxa rfl).symm) ((amtX k .sxa rfl).trans (amtX k .rxa rfl).symm) l
    (isTok (tokA m (bk c k)) (numA m (bk c k))) anyv (Sl c (abS (par (k.val + 1))) anyv) (pay_sxa m c k) (pay_rxa m c k)

theorem send_xb {n' : Dev nD} (hn : n' = prv c) {src' : Memref sig .tc .vmem S1024x1152 .bf16} (hsrc' : src' = xbS (par k.val))
    {dst' : Memref sig .tc .vmem S1024x1152 .bf16} (hdst' : dst' = xbS (par (k.val + 1)))
    {ss rs : DmaSem sig} (hss : SemLoc.dma ss = csem (.inr (k, .sxb))) (hrs : SemLoc.dma rs = csem (.inr (k, .rxb))) (l : Debts)
    {hsc : dst'.view.ref.isScScratch = false} {hsrc : src'.view.WordExact} {hdst : dst'.view.WordExact}
    {hsem : DmaTarget.Typed .vmem (.dma rs) (.remote (Dev.tc n' : Thread nD τ) dst' (.dma ss) hsc)}
    {kk : PUnit → Prog (TpuEff nD τ sig (Elt F) Λ₀ .tc) α} :
    iprop(records m K ∗ Sl c (xbS (par k.val)) (isTok (tokB m (fw c k)) (numB m (fw c k))) ∗ Sl (prv c) (xbS (par (k.val + 1))) anyv ∗ (Sl c (aaS (par (k.val + 1))) anyv)
        ∗ owesE c ((prv c, .inr (k, .rxb)) :: l) ∗ dutyTok ER (cell c (.inr (k, .sxb))) 0 false ∗ dutyTok ER (cell (prv c) (.inr (k, .rxb))) 0 false)
      ⊢ iprop(((cred (tallyAt (cell c (.inr (k, .sxb))) () (amt (.inr (k, .sxb)))) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc n' : Thread nD τ) dst' (.dma ss) hsc) (.dma rs) hsrc hdst hsem) kk) Q) :=
  wp_xsend m K c hn hsrc' hdst' (.inr (k, .sxb)) (.inr (k, .rxb)) hss hrs
    ((show (xbS (par (k.val + 1))).view.dmaCredit = NX from rfl).trans (amtX k .rxb rfl).symm) ((amtX k .sxb rfl).trans (amtX k .rxb rfl).symm) l
    (isTok (tokB m (fw c k)) (numB m (fw c k))) anyv (Sl c (aaS (par (k.val + 1))) anyv) (pay_sxb m c k) (pay_rxb m c k)

theorem send_aa {n' : Dev nD} (hn : n' = nxt c) {src' : Memref sig .tc .vmem S1024x1024 .bf16} (hsrc' : src' = aaS (par k.val))
    {dst' : Memref sig .tc .vmem S1024x1024 .bf16} (hdst' : dst' = aaS (par (k.val + 1)))
    {ss rs : DmaSem sig} (hss : SemLoc.dma ss = csem (.inr (k, .saa))) (hrs : SemLoc.dma rs = csem (.inr (k, .raa))) (l : Debts)
    {hsc : dst'.view.ref.isScScratch = false} {hsrc : src'.view.WordExact} {hdst : dst'.view.WordExact}
    {hsem : DmaTarget.Typed .vmem (.dma rs) (.remote (Dev.tc n' : Thread nD τ) dst' (.dma ss) hsc)}
    {kk : PUnit → Prog (TpuEff nD τ sig (Elt F) Λ₀ .tc) α} :
    iprop(records m K ∗ Sl c (aaS (par k.val)) (isB (accA m c k)) ∗ Sl (nxt c) (aaS (par (k.val + 1))) anyv ∗ (if k.val < 6 then Sl c (xbS (par k.val)) anyv else iprop(emp))
        ∗ owesE c ((nxt c, .inr (k, .raa)) :: l) ∗ dutyTok ER (cell c (.inr (k, .saa))) 0 false ∗ dutyTok ER (cell (nxt c) (.inr (k, .raa))) 0 false)
      ⊢ iprop(((cred (tallyAt (cell c (.inr (k, .saa))) () (amt (.inr (k, .saa)))) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc n' : Thread nD τ) dst' (.dma ss) hsc) (.dma rs) hsrc hdst hsem) kk) Q) :=
  wp_xsend m K c hn hsrc' hdst' (.inr (k, .saa)) (.inr (k, .raa)) hss hrs
    ((show (aaS (par (k.val + 1))).view.dmaCredit = NA from rfl).trans (amtA k .raa rfl).symm) ((amtA k .saa rfl).trans (amtA k .raa rfl).symm) l
    (isB (accA m c k)) anyv (if k.val < 6 then Sl c (xbS (par k.val)) anyv else iprop(emp)) (pay_saa m c k) (pay_raa m c k)

theorem send_ab {n' : Dev nD} (hn : n' = prv c) {src' : Memref sig .tc .vmem S1024x1024 .bf16} (hsrc' : src' = abS (par k.val))
    {dst' : Memref sig .tc .vmem S1024x1024 .bf16} (hdst' : dst' = abS (par (k.val + 1)))
    {ss rs : DmaSem sig} (hss : SemLoc.dma ss = csem (.inr (k, .sab))) (hrs : SemLoc.dma rs = csem (.inr (k, .rab))) (l : Debts)
    {hsc : dst'.view.ref.isScScratch = false} {hsrc : src'.view.WordExact} {hdst : dst'.view.WordExact}
    {hsem : DmaTarget.Typed .vmem (.dma rs) (.remote (Dev.tc n' : Thread nD τ) dst' (.dma ss) hsc)}
    {kk : PUnit → Prog (TpuEff nD τ sig (Elt F) Λ₀ .tc) α} :
    iprop(records m K ∗ Sl c (abS (par k.val)) (isB (accB m c k)) ∗ Sl (prv c) (abS (par (k.val + 1))) anyv ∗ (if k.val < 6 then Sl c (xaS (par k.val)) anyv else iprop(emp))
        ∗ owesE c ((prv c, .inr (k, .rab)) :: l) ∗ dutyTok ER (cell c (.inr (k, .sab))) 0 false ∗ dutyTok ER (cell (prv c) (.inr (k, .rab))) 0 false)
      ⊢ iprop(((cred (tallyAt (cell c (.inr (k, .sab))) () (amt (.inr (k, .sab)))) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc n' : Thread nD τ) dst' (.dma ss) hsc) (.dma rs) hsrc hdst hsem) kk) Q) :=
  wp_xsend m K c hn hsrc' hdst' (.inr (k, .sab)) (.inr (k, .rab)) hss hrs
    ((show (abS (par (k.val + 1))).view.dmaCredit = NA from rfl).trans (amtA k .rab rfl).symm) ((amtA k .sab rfl).trans (amtA k .rab rfl).symm) l
    (isB (accB m c k)) anyv (if k.val < 6 then Sl c (xaS (par k.val)) anyv else iprop(emp)) (pay_sab m c k) (pay_rab m c k)

end

end Cert.Moe

end
-- ==== Proof.Front.lean ====
/-
# The run up to the first hop: the barrier and the device's own tokens
-/
module

public import proofs.«01_k».proof.Proof.StepBase

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces of the state -/

/-- The barrier to come: the place on the own cell, its two credits, the tickets of the two signals. -/
def BarG (c : Dev nD) : sProp 𝕄 :=
  iprop(atPos ER (cell c (.inl .bar)) 0 ∅ 0 ∗ cred (tallyAt (cell c (.inl .bar)) () 2)
    ∗ dutyTok ER (cell (prv c) (.inl .bar)) 0 false ∗ dutyTok ER (cell (nxt c) (.inl .bar)) 0 true)

/-- The device's own tokens in main memory. -/
def XB (c : Dev nD) : sProp 𝕄 := ((c : Thread nD τ).loc main_arg0) ↦{fullShare} (m ((c : Thread nD τ).loc main_arg0))

/-- The staged router and expert numbers. -/
def Stg (c : Dev nD) : sProp 𝕄 := iprop(Sl c rtM (fun v => v = rtV m c) ∗ Sl c ixM (fun v => v = ixV m c))

/-- A copy of half `p` of the device's tokens under way, with the slot's half of the weights. -/
def BusyX (c : Dev nD) (p : Fin 2) : sProp 𝕄 :=
  iprop(InFlW c (sldS p) (xS p) (stS p) fullShare (m ((c : Thread nD τ).loc main_arg0)) ∗ (((c : Thread nD τ).loc main_arg3) ↦{shr p} wB m c))

section

variable {α : Type} {Q : α → sProp (MT nD τ sig Unit (Elt F) ℕ UU ℕ)} (K : Dev nD × CK → ℕ) (c : Dev nD)

/-! ## The barrier -/

theorem signal_bar {n n' : Dev nD} (hn : n' = n) (d : Bool) (l : Debts) {w : ℕ} (hw : 1 = w)
    {k : PUnit → Prog (TpuEff nD τ sig (Elt F) Λ₀ .tc) α} :
    iprop(records m K ∗ owesE c ((n, .inl .bar) :: l) ∗ dutyTok ER (cell n (.inl .bar)) 0 d ∗ pay m n d (.inl .bar))
      ⊢ iprop((owesE c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n' : Thread nD τ) barS w) k) Q) := by
  subst hn hw
  have y := payload_cell m n' (.inl .bar) d
  rw [show cell n' (.inl .bar) = ((n' : Thread nD τ), SemLoc.reg barS) from rfl] at y
  iintro ⟨#HK, Ho, Ht, Hp⟩ Hk
  ihave Hr := (records_at m K n' (.inl .bar)) $$ HK
  icases Hr with ⟨#HI, #HR⟩
  unfold owesE
  icases Ho with ⟨%W, HO⟩
  iapply (Rounds.wp_signal 𝒱₀ ER (Rd m) (c : Thread nD τ) none (dst := (n' : Thread nD τ)) (κ := K (n', .inl .bar)) (sem := barS) (r := 0)
      (d := d) (by have h := duties_bar m n'; exact h.symm ▸ Finset.mem_univ d) (amount_cell m n' (.inl .bar) d) () (Osum l) rfl) $$ [HO Ht Hp]
  · isplitr; · iexact HI
    isplitl [HO]; · iexact HO
    isplitl [Ht]; · iexact Ht
    isplitl [Hp]
    · rw [y]; iexact Hp
    iexact HR
  iintro HO
  iapply Hk
  iexists W; iexact HO

theorem wait_bar (l : Debts) (hlev : ∀ p ∈ l, 1 < levOf (some p.2)) {w : ℕ} (hw : 2 = w)
    {k : PUnit → Prog (TpuEff nD τ sig (Elt F) Λ₀ .tc) α} :
    iprop(records m K ∗ levAts L lv ∗ cred (tallyAt (cell c (.inl .bar)) () 2) ∗ owesE c l ∗ atPos ER (cell c (.inl .bar)) 0 ∅ 0)
      ⊢ iprop(((owesE c l ∗ semVal (cell c (.inl .bar)) 0 ∗ (Sl (nxt c) (xaS 1) anyv ∗ Sl (nxt c) faM anyv) ∗ (Sl (prv c) (xbS 1) anyv ∗ Sl (prv c) fbM anyv))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  have y := rest_bar m c
  rw [show cell c (.inl .bar) = ((c : Thread nD τ), SemLoc.reg barS) from rfl] at y
  have hm : (levAts L lv : sProp 𝕄) ⊢ MayWait (c : Thread nD τ) (.reg barS) () (Osum l) :=
    mayWait c _ l 1 (by have h := kindOf_csem (.inl .bar); exact (congrArg levOf h).le) hlev
  iintro ⟨#HK, #Hlev, Hc, Ho, Hat⟩ Hk
  ihave Hr1 := (records_at m K c (.inl .bar)) $$ HK
  icases Hr1 with ⟨#HI, -⟩
  unfold owesE
  icases Ho with ⟨%W, HO⟩
  iapply (Rounds.wp_wait_rest_token 𝒱₀ ER (Rd m) (c : Thread nD τ) none (κ := K (c, .inl .bar)) (sm := .reg barS)
      (wpE_semWait_eq 𝒱₀ (c : Thread nD τ) none Set.univ) (Set.mem_univ _) () (O := Osum l) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply hm; iexact Hlev
    iexact Hat
  iintro ⟨HO, Hat, -, Hpay⟩
  imod (Rounds.cell_close ER (Rd m) (Set.mem_univ (K (c, .inl .bar))) (fun h => h) (R := 0 + 1) (duties_later m (cell c (.inl .bar)))) $$ [Hat] with Hz
  · isplitr; · iexact HI
    iexact Hat
  iapply Hk
  isplitl [HO]; · iexists _; iexact HO
  isplitl [Hz]; · iexact Hz
  ihave Hpay := (.of_eq y : _ ⊢ iprop((Sl (nxt c) (xaS 1) anyv ∗ Sl (nxt c) faM anyv) ∗ (Sl (prv c) (xbS 1) anyv ∗ Sl (prv c) fbM anyv))) $$ Hpay
  iexact Hpay

/-! ## The device's own tokens, copied in -/

theorem issue_x (p : Fin 2) {sem' : DmaSem sig} (hs : sem' = sldS p)
    {src' : Memref sig .tc .hbm S1024x1024 .f32} (hsrc' : src' = xS p) {dst' : Memref sig .tc .vmem S1024x1024 .f32} (hdst' : dst' = stS p)
    {hsrc : src'.view.WordExact} {hdst : dst'.view.WordExact} {hsem : DmaTarget.Typed .hbm (.dma sem') (DmaTarget.here (nD := nD) (τ := τ) (p := .tc) dst')}
    {k : PUnit → Prog (TpuEff nD τ sig (Elt F) Λ₀ .tc) α} :
    iprop(Free m c p ∗ XB m c) ⊢ iprop((BusyX m c p -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sem') hsrc hdst hsem) k) Q) := by
  unfold Free BusyX XB
  iintro ⟨⟨Hd, Hs, Hv⟩, HX⟩ Hk
  iapply (wp_issueW c hs hsrc' hdst' (by decide) fullShare (m ((c : Thread nD τ).loc main_arg0)) anyv) $$ [HX Hd Hv]
  · isplitl [HX]; · iexact HX
    isplitl [Hd]; · iexact Hd
    iexact Hv
  iintro HF
  iapply Hk
  isplitl [HF]; · iexact HF
  iexact Hs

theorem collect_x (p : Fin 2) {sem' : DmaSem sig} (hs : sem' = sldS p) (l : Debts) (hlev : ∀ q ∈ l, 0 < levOf (some q.2))
    {sp₁ cs₁ : Space} {s₁ : Shape} {e₁ : EltTy} {srcw : Memref sig .tc sp₁ s₁ e₁} {dstw : Memref sig .tc cs₁ S1024x1024 .f32}
    {hsrc : srcw.view.WordExact} {hdst : dstw.view.WordExact}
    {off : Fin 3 → ℕ} (ho : off = ![p.val, 0, 0]) {inb} {hl : stM.view.LoadsAt (Rect.unit (s := S2x1024x1024) off S1x1024x1024.size inb).toLoadRect}
    {k : (S1x1024x1024.Idx → Elt F .f32) → Prog (TpuEff nD τ sig (Elt F) Λ₀ .tc) α} :
    iprop(levAts L lv ∗ BusyX m c p ∗ owesE c l)
      ⊢ iprop(((owesE c l ∗ Free m c p ∗ XB m c) -∗ wp frame (wpE (defs₀ (F := F)) 𝒱₀ (c : Thread nD τ) none) Set.univ (k (un (xV m c p))) Q)
          -∗ wp frame (wpE (defs₀ (F := F)) 𝒱₀ (c : Thread nD τ) none) Set.univ (.op (.waitDma2 sem' srcw dstw hsrc hdst) fun _ =>
            .op (.load stM (Rect.unit (s := S2x1024x1024) off S1x1024x1024.size inb).toLoadRect hl) k) Q) := by
  subst ho
  unfold Free BusyX XB
  iintro ⟨#Hlev, ⟨HB, Hw⟩, Ho⟩ Hk
  iapply (wp_collectW c hs (xS p) (stS p) fullShare (m ((c : Thread nD τ).loc main_arg0)) (kind_sld p) l hlev (show dstw.view.dmaCredit = (stS p).view.dmaCredit from rfl)) $$ [HB Ho]
  · isplitr; · iexact Hlev
    isplitl [HB]; · iexact HB
    iexact Ho
  iintro ⟨Ho, Hv, Hd, Hs⟩
  have hd : Sl c (stS p) (fun v => v = (xS p).view.read (Elt F) (m ((c : Thread nD τ).loc main_arg0))) ⊢ Sl c (stS p) (isB (un (xV m c p))) :=
    Sl_mono c _ (fun v hv => by subst hv; exact isB_un _)
  ihave Hd := hd $$ Hd
  iapply (load_slot_isW c stM (rA p) (fun _ => rfl) squeezes_S1x1024x1024_S1024x1024 (un (xV m c p))) $$ Hd
  iintro Hd
  iapply Hk
  isplitl [Ho]; · iexact Ho
  isplitl [Hd Hw Hv]
  · isplitl [Hd]; · iapply Sl_any; iexact Hd
    isplitl [Hw]; · iexact Hw
    iexact Hv
  iexact Hs

/-! ## The staged arrays read -/

omit [FloatOps F] in
theorem whole_rt {inb : ∀ a, (![0, 0] : Fin 2 → ℕ) a + S1024x64.size a ≤ S1024x64.size a} (x : S1024x64.Idx) :
    (Rect.unit (s := S1024x64) ![0, 0] S1024x64.size inb).toLoadRect.idx x = x := by
  refine @funext (Fin 2) (fun a => Fin (S1024x64.size a)) _ _ fun a => Fin.ext ?_
  fin_cases a
  · show 0 + 1 * (x 0).val = (x 0).val; omega
  · show 0 + 1 * (x 1).val = (x 1).val; omega

theorem load_rt {inb} {hl : rtM.view.LoadsAt (Rect.unit (s := S1024x64) ![0, 0] S1024x64.size inb).toLoadRect}
    {k : (S1024x64.Idx → Elt F .f32) → Prog (TpuEff nD τ sig (Elt F) Λ₀ .tc) α} (w : S1024x64.Idx → Elt F .f32) :
    Sl c rtM (fun v => v = w) ⊢ iprop((Sl c rtM (fun v => v = w) -∗ wp frame (wpE (defs₀ (F := F)) 𝒱₀ (c : Thread nD τ) none) Set.univ (k w) Q)
      -∗ wp frame (wpE (defs₀ (F := F)) 𝒱₀ (c : Thread nD τ) none) Set.univ (.op (.load rtM (Rect.unit (s := S1024x64) ![0, 0] S1024x64.size inb).toLoadRect hl) k) Q) := by
  iintro H Hk
  iapply (load_view c rtM (fun v => v = w)) $$ H
  iintro %v %hv H
  subst hv
  have hk : k (fun x : S1024x64.Idx => v ((Rect.unit (s := S1024x64) ![0, 0] S1024x64.size inb).toLoadRect.idx x)) = k v :=
    congrArg k (funext fun x => congrArg v (whole_rt x))
  iapply (.of_eq (congrArg (fun p => wp frame (wpE (defs₀ (F := F)) 𝒱₀ (c : Thread nD τ) none) Set.univ p Q) hk.symm) : _ ⊢ _)
  iapply Hk; iexact H

theorem load_ix (p : Fin 2) {off : Fin 2 → ℕ} (ho : off = ![1024 * p.val, 0]) {inb} {hl : ixM.view.LoadsAt (Rect.unit (s := S2048x2) off S1024x2.size inb).toLoadRect}
    {k : (S1024x2.Idx → Elt F .i32) → Prog (TpuEff nD τ sig (Elt F) Λ₀ .tc) α} :
    Sl c ixM (fun v => v = ixV m c) ⊢ iprop((Sl c ixM (fun v => v = ixV m c) -∗ wp frame (wpE (defs₀ (F := F)) 𝒱₀ (c : Thread nD τ) none) Set.univ (k (ixH m c p)) Q)
      -∗ wp frame (wpE (defs₀ (F := F)) 𝒱₀ (c : Thread nD τ) none) Set.univ (.op (.load ixM (Rect.unit (s := S2048x2) off S1024x2.size inb).toLoadRect hl) k) Q) := by
  subst ho
  iintro H Hk
  iapply (load_view c ixM (fun v => v = ixV m c)) $$ H
  iintro %v %hv H
  subst hv
  iapply Hk; iexact H

theorem xslice {off off' : Fin 2 → ℕ} (h : off = off') {inb inb'} {h1 h2} :
    xM.slice (Rect.unit (s := S2048x1024) off S1024x1024.size inb) h1 = xM.slice (Rect.unit (s := S2048x1024) off' S1024x1024.size inb') h2 := by
  subst h; rfl

end

variable (K : Dev nD × CK → ℕ)

/-! ## The run up to the hops -/

/-- Everything device `c` has when its body begins, but for the hops' and the last transfers' tickets. -/
def S7 (c : Dev nD) : sProp 𝕄 :=
  iprop(records m K ∗ levAts L lv ∗ BarG c ∗ owesE c (debts₀ c) ∗ Stg m c ∗ XB m c ∗ Free m c 0
    ∗ (Sl c (xaS 1) anyv ∗ Sl c faM anyv) ∗ (Sl c (xbS 1) anyv ∗ Sl c fbM anyv))

/-- After the barrier, the first copy under way. -/
def S8 (c : Dev nD) : sProp 𝕄 :=
  iprop(records m K ∗ levAts L lv ∗ semVal (cell c (.inl .bar)) 0 ∗ owesE c (debtsFrom c 0) ∗ Stg m c ∗ BusyX m c 0
    ∗ (Sl (nxt c) (xaS 1) anyv ∗ Sl (nxt c) faM anyv) ∗ (Sl (prv c) (xbS 1) anyv ∗ Sl (prv c) fbM anyv))

theorem part7_run (c : Dev nD) : S7 m K c ⊢ wp frame (wpE (defs₀ (F := F)) 𝒱₀ (c : Thread nD τ) none) Set.univ (k0_part7 xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21)
      (fun r => iprop(⌜r.1 = c ∧ r.2.1 = dw c ∧ r.2.2.2.2 = rtr m c⌝ ∗ S8 m K c)) := by
  simp only [k0_part7_eq_skeleton]
  unfold k0_part7_skel
  simp only [semSignalWord, semWaitWord, Prog.lift, Prog.bind_op, Prog.bind_ret, Prog.pure_eq_ret, wp_deviceId]
  unfold S7 BarG Stg debts₀
  iintro ⟨#HK, #Hlev, ⟨Hat, Hcr, Ht0, Ht1⟩, Ho, ⟨Hrt, Hix⟩, HX, HF, Ha, Hb⟩
  iapply (signal_bar m K c (dev1_eq c) false ((nxt c, .inl .bar) :: debtsFrom c 0) (by decide)) $$ [Ho Ht0 Ha]
  · isplitr; · iexact HK
    isplitl [Ho]; · iexact Ho
    isplitl [Ht0]; · iexact Ht0
    iapply (.of_eq (show _ = pay m (prv c) false (.inl .bar) from by
      show _ = iprop(Sl (nxt (prv c)) (xaS 1) anyv ∗ Sl (nxt (prv c)) faM anyv)
      rw [nxt_prv]) : iprop(Sl c (xaS 1) anyv ∗ Sl c faM anyv) ⊢ _)
    iexact Ha
  iintro Ho
  iapply (signal_bar m K c (dev2_eq c) true (debtsFrom c 0) (by decide)) $$ [Ho Ht1 Hb]
  · isplitr; · iexact HK
    isplitl [Ho]; · iexact Ho
    isplitl [Ht1]; · iexact Ht1
    iapply (.of_eq (show _ = pay m (nxt c) true (.inl .bar) from by
      show _ = iprop(Sl (prv (nxt c)) (xbS 1) anyv ∗ Sl (prv (nxt c)) fbM anyv)
      rw [prv_nxt]) : iprop(Sl c (xbS 1) anyv ∗ Sl c fbM anyv) ⊢ _)
    iexact Hb
  iintro Ho
  iapply (wait_bar m K c (debtsFrom c 0) (fun p hp => lt_of_le_of_lt (le_max_left _ _) (debtsFrom_lev c 0 p hp)) (by decide)) $$ [Hcr Ho Hat]
  · isplitr; · iexact HK
    isplitr; · iexact Hlev
    isplitl [Hcr]; · iexact Hcr
    isplitl [Ho]; · iexact Ho
    iexact Hat
  iintro ⟨Ho, Hz, Ha, Hb⟩
  iapply (load_rt c (rtV m c)) $$ Hrt
  iintro Hrt
  iapply (issue_x m c 0 (sem_sld 0 rfl) (xslice rfl) (slot_congr stM rfl)) $$ [HF HX]
  · isplitl [HF]; · iexact HF
    iexact HX
  iintro HB
  rw [wp_ret]; imodintro
  isplitr; · ipureintro; exact ⟨rfl, rfl, rfl⟩
  unfold S8 Stg
  isplitr; · iexact HK
  isplitr; · iexact Hlev
  isplitl [Hz]; · iexact Hz
  isplitl [Ho]; · iexact Ho
  isplitl [Hrt Hix]
  · isplitl [Hrt]; · iexact Hrt
    iexact Hix
  isplitl [HB]; · iexact HB
  isplitl [Ha]; · iexact Ha
  iexact Hb

/-- The A tokens and their expert numbers in place; the B tokens read. -/
theorem part8_run (c : Dev nD) (l : Debts) (hl : ∀ q ∈ l, 0 < levOf (some q.2)) :
    iprop(levAts L lv ∗ owesE c l ∗ Sl c ixM (fun v => v = ixV m c) ∗ BusyX m c 0 ∗ Free m c 1 ∗ Sl c (xaS 0) anyv ∗ Sl c (xbS 0) anyv)
      ⊢ wp frame (wpE (defs₀ (F := F)) 𝒱₀ (c : Thread nD τ) none) Set.univ (k0_part8 xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21)
      (fun r => iprop(⌜r.1 = k0_pay31 (un (xV m c 1))⌝ ∗ owesE c l ∗ Sl c ixM (fun v => v = ixV m c) ∗ Free m c 0 ∗ Free m c 1 ∗ XB m c
          ∗ Sl c (xaS 0) (isTok (tokA m c) (numA m c)) ∗ Sl c (xbS 0) anyv)) := by
  simp only [k0_part8_eq_skeleton]
  unfold k0_part8_skel
  simp only [Prog.lift, Prog.bind_op, Prog.bind_ret, Prog.pure_eq_ret]
  iintro ⟨#Hlev, Ho, Hix, HB, HF1, Hxa, Hxb⟩
  iapply (collect_x m c 0 (sem_sld 0 rfl) l hl rfl) $$ [Ho HB]
  · isplitr; · iexact Hlev
    isplitl [HB]; · iexact HB
    iexact Ho
  iintro ⟨Ho, HF0, HX⟩
  iapply (load_dead c xaM 0 0 1024 (by decide) anyv) $$ Hxa
  iintro Hxa
  iapply (store_tok c xaM 0 anyv) $$ Hxa
  iintro Hxa
  iapply (load_ix m c 0 rfl) $$ Hix
  iintro Hix
  iapply (load_dead c xaM 0 1024 2 (by decide) (isTokX _)) $$ Hxa
  iintro Hxa
  iapply (store_num c xaM 0 _) $$ Hxa
  iintro Hxa
  iapply (issue_x m c 1 (sem_sld 1 rfl) (xslice rfl) (slot_congr stM rfl)) $$ [HF1 HX]
  · isplitl [HF1]; · iexact HF1
    iexact HX
  iintro HB
  iapply (collect_x m c 1 (sem_sld 1 rfl) l hl rfl) $$ [Ho HB]
  · isplitr; · iexact Hlev
    isplitl [HB]; · iexact HB
    iexact Ho
  iintro ⟨Ho, HF1, HX⟩
  iapply (load_slot c xbM (rX 0) (fun _ => rfl) squeezes_S1x1024x1152_S1024x1152 anyv (wIdx 0 1024 (by decide)) (window_idx 0 _ 0 1024 (by decide) _)) $$ Hxb
  iintro %v %hv Hxb
  rw [wp_ret]; imodintro
  isplitr; · ipureintro; rfl
  isplitl [Ho]; · iexact Ho
  isplitl [Hix]; · iexact Hix
  isplitl [HF0]; · iexact HF0
  isplitl [HF1]; · iexact HF1
  isplitl [HX]; · iexact HX
  isplitl [Hxa]; · iexact Hxa
  iexact Hxb

end Cert.Moe

end
-- ==== Proof.StepFirst.lean ====
/-
# The first hop's run
-/
module

public import proofs.«01_k».proof.Proof.StepBase

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- Hop 0: the device's own tokens. -/
theorem t1_step_first (c : Dev nD) (v5 v7 : BitVec 32) (v50 : FVec F S1024x1024 .bf16) (v51 : Vec F S1x1024x1024 .bf16)
    (t : Fin k0_t1_loop.trips) (u : Unit) (h0 : t.val = 0) :
    I1 m K c 0 ⊢ wp frame (wpE (defs₀ (F := F)) 𝒱₀ (c : Thread nD τ) none) Set.univ
      (k0_t1_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) v50 v51 t u)
      (fun _ => I1 m K c 1) := by
    have ho6 : k0_off6 t = ![(0 : Fin 2).val, 0, 0] := by rw [k0_off6_eq, h0]; rfl
    have ho7 : k0_off7 t = ![(0 : Fin 2).val, 0, 1024 + (0 : Fin 2).val] := by rw [k0_off7_eq, h0]; rfl
    have ho8 : k0_off8 t = ![(0 : Fin 2).val, 0, 1024 + (1 : Fin 2).val] := by rw [k0_off8_eq, h0]; rfl
    have hlev := lev_pos c 0
    unfold k0_t1_body
    simp only [k0_part5_eq_skeleton, k0_part6_eq_skeleton]
    unfold k0_part5_skel k0_part6_skel
    rw [dif_neg (fun h => (cond1_iff t).1 h h0)]
    simp only [Prog.lift, Prog.bind_op, Prog.bind_ret, Prog.pure_eq_ret]
    unfold I1
    rw [Mem_zero, Mem_succ]
    iintro ⟨⟨Hxa, Hxb, Haa, Hab, Haa1, Hab1, Hxd, Hyd⟩, Hta, Htb, HF0, HF1, HG, Ho, #HK, #Hlev⟩
    iapply (load_tok c xaM 0 ho6 (tokA m c) (numA m c)) $$ Hxa
    iintro Hxa
    iapply (load_num c xaM 0 0 ho7 (tokA m c) (numA m c)) $$ Hxa
    iintro Hxa
    iapply (load_num c xaM 0 1 ho8 (tokA m c) (numA m c)) $$ Hxa
    iintro Hxa
    iapply (load_tok c xbM 0 ho6 (tokB m c) (numB m c)) $$ Hxb
    iintro Hxb
    iapply (load_num c xbM 0 0 ho7 (tokB m c) (numB m c)) $$ Hxb
    iintro Hxb
    iapply (load_num c xbM 0 1 ho8 (tokB m c) (numB m c)) $$ Hxb
    iintro Hxb
    iapply (load_all_dead c taM _) $$ Hta
    iintro Hta
    iapply (store_all c taM _) $$ Hta
    iintro Hta
    iapply (load_all_dead c tbM _) $$ Htb
    iintro Htb
    iapply (store_all c tbM _) $$ Htb
    iintro Htb
    iapply (issue_w m c 0 0 (sem_sld 0 rfl) (slot_congr wM rfl) (slot_congr stM rfl)) $$ HF0
    iintro HF0
    iapply (Scf.wp_for_bind frame (wpE (defs₀ (F := F)) 𝒱₀ (c : Thread nD τ) none) Set.univ _ _ _ k0_t2_ok _ _
      (fun e _ => I2 m c c c (debtsFrom c 0) e) (fun e u => t2_step m c c c (debtsFrom c 0) hlev v5 v7 v50 v51 e u)) $$ [Hta Htb HF0 HF1 Ho]
    · unfold I2 Stage
      rw [dif_pos (show 0 < 8 by decide)]
      isplitl [Hta]; · iexact Hta
      isplitl [Htb]; · iexact Htb
      isplitl [HF0 HF1]
      · isplitl [HF0]; · iexact HF0
        iexact HF1
      isplitl [Ho]; · iexact Ho
      iexact Hlev
    iintro %_u HI
    rw [show Scf.trips k0_t2_loop.lb k0_t2_loop.ub k0_t2_loop.st = 8 from trips2]
    ihave HI := (.of_eq (I2_end m c c c (debtsFrom c 0)) : _ ⊢ _) $$ HI
    icases HI with ⟨Hta, Htb, ⟨HF0, HF1⟩, Ho, -⟩
    rw [dif_pos ((cond3_iff t).2 h0)]
    iapply (load_all c taM (sumA m c c 8)) $$ Hta
    iintro Hta
    iapply (load_blk_dead c aaM 0 rfl _) $$ Haa
    iintro Haa
    iapply (store_blk c aaM 0 rfl _) $$ Haa
    iintro Haa
    iapply (load_all c tbM (sumB m c c 8)) $$ Htb
    iintro Htb
    iapply (load_blk_dead c abM 0 rfl _) $$ Hab
    iintro Hab
    iapply (store_blk c abM 0 rfl _) $$ Hab
    iintro Hab
    rw [dif_neg (fun h => (cond4_iff t).1 h h0)]
    rw [wp_ret]; imodintro
    rw [if_pos (show 0 < 7 by decide)]
    isplitl [Hxa Hxb Haa Hab Haa1 Hab1 Hxd Hyd]
    · isplitl [Hxa]; · iexact Hxa
      isplitl [Hxb]; · iexact Hxb
      isplitl [Haa]; · iexact Haa
      isplitl [Hab]; · iexact Hab
      isplitl [Haa1]; · iexact Haa1
      isplitl [Hab1]; · iexact Hab1
      isplitl [Hxd]; · iexact Hxd
      iexact Hyd
    isplitl [Hta]; · iapply Sl_any; iexact Hta
    isplitl [Htb]; · iapply Sl_any; iexact Htb
    isplitl [HF0]; · iexact HF0
    isplitl [HF1]; · iexact HF1
    isplitl [HG]; · iexact HG
    isplitl [Ho]; · iexact Ho
    isplitr; · iexact HK
    iexact Hlev

end Cert.Moe

end
-- ==== Proof.StepLater.lean ====
/-
# A later hop's run
-/
module

public import proofs.«01_k».proof.Proof.StepBase

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- Hop `k + 1`: the neighbours' tokens and partial sums. -/
theorem t1_step_later (c : Dev nD) (v5 v7 : BitVec 32) (v50 : FVec F S1024x1024 .bf16) (v51 : Vec F S1x1024x1024 .bf16)
    (t : Fin k0_t1_loop.trips) (u : Unit) (k : Fin 7) (hk : t.val = k.val + 1) :
    I1 m K c (k.val + 1) ⊢ wp frame (wpE (defs₀ (F := F)) 𝒱₀ (c : Thread nD τ) none) Set.univ
      (k0_t1_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) v50 v51 t u)
      (fun _ => I1 m K c (k.val + 2)) := by
    have hlev := lev_pos c (k.val + 2)
    have hne : t.val ≠ 0 := by omega
    have hc : k0_cond1 t = 1#1 := (cond1_iff t).2 hne
    have hk7 := k.isLt
    have ho6 : k0_off6 t = ![(par t.val).val, 0, 0] := k0_off6_eq t
    have ho7 : k0_off7 t = ![(par t.val).val, 0, 1024 + (0 : Fin 2).val] := k0_off7_eq t
    have ho8 : k0_off8 t = ![(par t.val).val, 0, 1024 + (1 : Fin 2).val] := k0_off8_eq t
    have hpk : par (k.val + 1) = par t.val := by rw [hk]
    unfold k0_t1_body
    simp only [k0_part5_eq_skeleton, k0_part6_eq_skeleton, k0_part4_eq_skeleton]
    unfold k0_part5_skel k0_part6_skel
    rw [dif_pos hc]
    simp only [k0_part1_eq_skeleton, k0_part2_eq_skeleton]
    unfold k0_part1_skel k0_part2_skel
    simp only [Prog.lift, Prog.bind_op, Prog.bind_ret, Prog.pure_eq_ret]
    unfold I1
    rw [debtsFrom_hop]
    unfold hopDebts
    iintro ⟨HM, Hta, Htb, HF0, HF1, HG, Ho, #HK, #Hlev⟩
    ihave HM := (.of_eq (Mem_succ m c k.val) : _ ⊢ _) $$ HM
    rw [if_pos k.isLt]
    icases HM with ⟨Hxa, Hxb, Haa, Hab, Haa1, Hab1, Hxd, Hyd⟩
    ihave HG := (Gh_hop c k) $$ HG
    icases HG with ⟨HG, HGk⟩
    unfold HopG
    icases HG with ⟨⟨Psxa, Tsxa⟩, ⟨Prxa, Crxa, Trxa⟩, ⟨Psaa, Tsaa⟩, ⟨Praa, Craa, Traa⟩, ⟨Psxb, Tsxb⟩, ⟨Prxb, Crxb, Trxb⟩, ⟨Psab, Tsab⟩, ⟨Prab, Crab, Trab⟩⟩
    iapply (send_xa m K c k (dev3_eq c t hc) (slot_congr xaM (off_odd (k0_off3_eq t) hk)) (slot_congr xaM (off_even (k0_off2_eq t) hk))
      (sem_sxa k (off1_at t k hk)) (sem_rxa k (off1_at t k hk)) ((prv c, .inr (k, .rxb)) :: (nxt c, .inr (k, .raa)) :: (prv c, .inr (k, .rab)) :: debtsFrom c (k.val + 2))) $$ [Hxa Hxd Hab1 Ho Tsxa Trxa]
    · isplitr; · iexact HK
      isplitl [Hxa]; · iexact Hxa
      isplitl [Hxd]; · iexact Hxd
      isplitl [Hab1]; · iexact Hab1
      isplitl [Ho]; · iexact Ho
      isplitl [Tsxa]; · iexact Tsxa
      iexact Trxa
    iintro ⟨Csxa, Ho⟩
    iapply (send_xb m K c k (dev4_eq c t hc) (slot_congr xbM (off_odd (k0_off3_eq t) hk)) (slot_congr xbM (off_even (k0_off2_eq t) hk))
      (sem_sxb k (off1_at t k hk)) (sem_rxb k (off1_at t k hk)) ((nxt c, .inr (k, .raa)) :: (prv c, .inr (k, .rab)) :: debtsFrom c (k.val + 2))) $$ [Hxb Hyd Haa1 Ho Tsxb Trxb]
    · isplitr; · iexact HK
      isplitl [Hxb]; · iexact Hxb
      isplitl [Hyd]; · iexact Hyd
      isplitl [Haa1]; · iexact Haa1
      isplitl [Ho]; · iexact Ho
      isplitl [Tsxb]; · iexact Tsxb
      iexact Trxb
    iintro ⟨Csxb, Ho⟩
    iapply (xwaitX m K c (.inr (k, .rxa)) (by simp) (amtX k .rxa rfl) (sem_rxa k (off1_at t k hk)) ((nxt c, .inr (k, .raa)) :: (prv c, .inr (k, .rab)) :: debtsFrom c (k.val + 2)) (lev_mid c k)) $$ [Crxa Ho Prxa]
    · isplitr; · iexact HK
      isplitr; · iexact Hlev
      isplitl [Crxa]; · iexact Crxa
      isplitl [Ho]; · iexact Ho
      iexact Prxa
    iintro ⟨Ho, Vrxa, Hpay⟩
    ihave Hpay := (got_rxa m c k) $$ Hpay
    icases Hpay with ⟨Hxa1, Hbd⟩
    iapply (xwaitX m K c (.inr (k, .rxb)) (by simp) (amtX k .rxb rfl) (sem_rxb k (off1_at t k hk)) ((nxt c, .inr (k, .raa)) :: (prv c, .inr (k, .rab)) :: debtsFrom c (k.val + 2)) (lev_mid c k)) $$ [Crxb Ho Prxb]
    · isplitr; · iexact HK
      isplitr; · iexact Hlev
      isplitl [Crxb]; · iexact Crxb
      isplitl [Ho]; · iexact Ho
      iexact Prxb
    iintro ⟨Ho, Vrxb, Hpay⟩
    ihave Hpay := (got_rxb m c k) $$ Hpay
    icases Hpay with ⟨Hxb1, Had⟩
    iapply (xwaitX m K c (.inr (k, .sxa)) (by simp) (amtX k .sxa rfl) (sem_sxa k (off1_at t k hk)) ((nxt c, .inr (k, .raa)) :: (prv c, .inr (k, .rab)) :: debtsFrom c (k.val + 2)) (fun p hp => lt_of_le_of_lt (Nat.zero_le _) (lev_mid c k p hp))) $$ [Csxa Ho Psxa]
    · isplitr; · iexact HK
      isplitr; · iexact Hlev
      isplitl [Csxa]; · iexact Csxa
      isplitl [Ho]; · iexact Ho
      iexact Psxa
    iintro ⟨Ho, Vsxa, Hpay⟩
    ihave Hpay := (got_sxa m c k) $$ Hpay
    icases Hpay with Hxa
    iapply (xwaitX m K c (.inr (k, .sxb)) (by simp) (amtX k .sxb rfl) (sem_sxb k (off1_at t k hk)) ((nxt c, .inr (k, .raa)) :: (prv c, .inr (k, .rab)) :: debtsFrom c (k.val + 2)) (fun p hp => lt_of_le_of_lt (Nat.zero_le _) (lev_mid c k p hp))) $$ [Csxb Ho Psxb]
    · isplitr; · iexact HK
      isplitr; · iexact Hlev
      isplitl [Csxb]; · iexact Csxb
      isplitl [Ho]; · iexact Ho
      iexact Psxb
    iintro ⟨Ho, Vsxb, Hpay⟩
    ihave Hpay := (got_sxb m c k) $$ Hpay
    icases Hpay with Hxb
    ihave Hxb := (give_or c k (xbS (par k.val))) $$ Hxb
    icases Hxb with ⟨Hxb, Hxbk⟩
    ihave Hxa := (give_or c k (xaS (par k.val))) $$ Hxa
    icases Hxa with ⟨Hxa, Hxak⟩
    iapply (send_aa m K c k (dev5_eq c t hc) (slot_congr aaM (off_odd (k0_off5_eq t) hk)) (slot_congr aaM (off_even (k0_off4_eq t) hk))
      (sem_saa k (off1_at t k hk)) (sem_raa k (off1_at t k hk)) ((prv c, .inr (k, .rab)) :: debtsFrom c (k.val + 2))) $$ [Haa Had Hxb Ho Tsaa Traa]
    · isplitr; · iexact HK
      isplitl [Haa]; · iexact Haa
      isplitl [Had]; · iexact Had
      isplitl [Hxb]; · iexact Hxb
      isplitl [Ho]; · iexact Ho
      isplitl [Tsaa]; · iexact Tsaa
      iexact Traa
    iintro ⟨Csaa, Ho⟩
    iapply (send_ab m K c k (dev6_eq c t hc) (slot_congr abM (off_odd (k0_off5_eq t) hk)) (slot_congr abM (off_even (k0_off4_eq t) hk))
      (sem_sab k (off1_at t k hk)) (sem_rab k (off1_at t k hk)) (debtsFrom c (k.val + 2))) $$ [Hab Hbd Hxa Ho Tsab Trab]
    · isplitr; · iexact HK
      isplitl [Hab]; · iexact Hab
      isplitl [Hbd]; · iexact Hbd
      isplitl [Hxa]; · iexact Hxa
      isplitl [Ho]; · iexact Ho
      isplitl [Tsab]; · iexact Tsab
      iexact Trab
    iintro ⟨Csab, Ho⟩
    ihave Hxa1 := (.of_eq (congrArg (fun p => Sl c (xaS p) (isTok (tokA m (bk c (k.val + 1))) (numA m (bk c (k.val + 1))))) hpk) : _ ⊢ _) $$ Hxa1
    ihave Hxb1 := (.of_eq (congrArg (fun p => Sl c (xbS p) (isTok (tokB m (fw c (k.val + 1))) (numB m (fw c (k.val + 1))))) hpk) : _ ⊢ _) $$ Hxb1
    iapply (load_tok c xaM (par t.val) ho6 (tokA m (bk c (k.val + 1))) (numA m (bk c (k.val + 1)))) $$ Hxa1
    iintro Hxa1
    iapply (load_num c xaM (par t.val) 0 ho7 (tokA m (bk c (k.val + 1))) (numA m (bk c (k.val + 1)))) $$ Hxa1
    iintro Hxa1
    iapply (load_num c xaM (par t.val) 1 ho8 (tokA m (bk c (k.val + 1))) (numA m (bk c (k.val + 1)))) $$ Hxa1
    iintro Hxa1
    iapply (load_tok c xbM (par t.val) ho6 (tokB m (fw c (k.val + 1))) (numB m (fw c (k.val + 1)))) $$ Hxb1
    iintro Hxb1
    iapply (load_num c xbM (par t.val) 0 ho7 (tokB m (fw c (k.val + 1))) (numB m (fw c (k.val + 1)))) $$ Hxb1
    iintro Hxb1
    iapply (load_num c xbM (par t.val) 1 ho8 (tokB m (fw c (k.val + 1))) (numB m (fw c (k.val + 1)))) $$ Hxb1
    iintro Hxb1
    iapply (load_all_dead c taM _) $$ Hta
    iintro Hta
    iapply (store_all c taM _) $$ Hta
    iintro Hta
    iapply (load_all_dead c tbM _) $$ Htb
    iintro Htb
    iapply (store_all c tbM _) $$ Htb
    iintro Htb
    iapply (issue_w m c 0 0 (sem_sld 0 rfl) (slot_congr wM rfl) (slot_congr stM rfl)) $$ HF0
    iintro HF0
    iapply (Scf.wp_for_bind frame (wpE (defs₀ (F := F)) 𝒱₀ (c : Thread nD τ) none) Set.univ _ _ _ k0_t2_ok _ _
      (fun e _ => I2 m c (bk c (k.val + 1)) (fw c (k.val + 1)) (debtsFrom c (k.val + 2)) e) (fun e u => t2_step m c (bk c (k.val + 1)) (fw c (k.val + 1)) (debtsFrom c (k.val + 2)) hlev v5 v7 v50 v51 e u)) $$ [Hta Htb HF0 HF1 Ho]
    · unfold I2 Stage
      rw [dif_pos (show 0 < 8 by decide)]
      isplitl [Hta]; · iexact Hta
      isplitl [Htb]; · iexact Htb
      isplitl [HF0 HF1]
      · isplitl [HF0]; · iexact HF0
        iexact HF1
      isplitl [Ho]; · iexact Ho
      iexact Hlev
    iintro %_u HI
    rw [show Scf.trips k0_t2_loop.lb k0_t2_loop.ub k0_t2_loop.st = 8 from trips2]
    ihave HI := (.of_eq (I2_end m c (bk c (k.val + 1)) (fw c (k.val + 1)) (debtsFrom c (k.val + 2))) : _ ⊢ _) $$ HI
    icases HI with ⟨Hta, Htb, ⟨HF0, HF1⟩, Ho, -⟩
    rw [dif_neg (fun h => hne ((cond3_iff t).1 h))]
    rw [dif_pos ((cond4_iff t).2 hne)]
    unfold k0_part4_skel
    simp only [Prog.lift, Prog.bind_op, Prog.bind_ret, Prog.pure_eq_ret]
    iapply (xwaitA m K c (.inr (k, .raa)) (by simp) (amtA k .raa rfl) (sem_raa k (off16_at t k hk)) (debtsFrom c (k.val + 2)) (lev_tail c k)) $$ [Craa Ho Praa]
    · isplitr; · iexact HK
      isplitr; · iexact Hlev
      isplitl [Craa]; · iexact Craa
      isplitl [Ho]; · iexact Ho
      iexact Praa
    iintro ⟨Ho, Vraa, Hpay⟩
    ihave Hpay := (got_raa m c k) $$ Hpay
    icases Hpay with ⟨Haa1, Hyd⟩
    iapply (xwaitA m K c (.inr (k, .rab)) (by simp) (amtA k .rab rfl) (sem_rab k (off16_at t k hk)) (debtsFrom c (k.val + 2)) (lev_tail c k)) $$ [Crab Ho Prab]
    · isplitr; · iexact HK
      isplitr; · iexact Hlev
      isplitl [Crab]; · iexact Crab
      isplitl [Ho]; · iexact Ho
      iexact Prab
    iintro ⟨Ho, Vrab, Hpay⟩
    ihave Hpay := (got_rab m c k) $$ Hpay
    icases Hpay with ⟨Hab1, Hxd⟩
    ihave Haa1 := (.of_eq (congrArg (fun p => Sl c (aaS p) (isB (accA m (prv c) k.val))) hpk) : _ ⊢ _) $$ Haa1
    ihave Hab1 := (.of_eq (congrArg (fun p => Sl c (abS p) (isB (accB m (nxt c) k.val))) hpk) : _ ⊢ _) $$ Hab1
    iapply (load_blk c aaM (par t.val) (k0_off19_eq t) (accA m (prv c) k)) $$ Haa1
    iintro Haa1
    iapply (load_all c taM (sumA m c (bk c (k.val + 1)) 8)) $$ Hta
    iintro Hta
    iapply (load_blk_dead c aaM (par t.val) (k0_off19_eq t) _) $$ Haa1
    iintro Haa1
    iapply (store_blk c aaM (par t.val) (k0_off19_eq t) _) $$ Haa1
    iintro Haa1
    iapply (load_blk c abM (par t.val) (k0_off19_eq t) (accB m (nxt c) k)) $$ Hab1
    iintro Hab1
    iapply (load_all c tbM (sumB m c (fw c (k.val + 1)) 8)) $$ Htb
    iintro Htb
    iapply (load_blk_dead c abM (par t.val) (k0_off19_eq t) _) $$ Hab1
    iintro Hab1
    iapply (store_blk c abM (par t.val) (k0_off19_eq t) _) $$ Hab1
    iintro Hab1
    iapply (xwaitA m K c (.inr (k, .saa)) (by simp) (amtA k .saa rfl) (sem_saa k (off16_at t k hk)) (debtsFrom c (k.val + 2)) (fun p hp => lt_of_le_of_lt (Nat.zero_le _) (lev_tail c k p hp))) $$ [Csaa Ho Psaa]
    · isplitr; · iexact HK
      isplitr; · iexact Hlev
      isplitl [Csaa]; · iexact Csaa
      isplitl [Ho]; · iexact Ho
      iexact Psaa
    iintro ⟨Ho, Vsaa, Hpay⟩
    ihave Hpay := (got_saa m c k) $$ Hpay
    icases Hpay with Haa
    iapply (xwaitA m K c (.inr (k, .sab)) (by simp) (amtA k .sab rfl) (sem_sab k (off16_at t k hk)) (debtsFrom c (k.val + 2)) (fun p hp => lt_of_le_of_lt (Nat.zero_le _) (lev_tail c k p hp))) $$ [Csab Ho Psab]
    · isplitr; · iexact HK
      isplitr; · iexact Hlev
      isplitl [Csab]; · iexact Csab
      isplitl [Ho]; · iexact Ho
      iexact Psab
    iintro ⟨Ho, Vsab, Hpay⟩
    ihave Hpay := (got_sab m c k) $$ Hpay
    icases Hpay with Hab
    rw [wp_ret]; imodintro
    rw [show Mem m c (k.val + 2) = _ from Mem_succ m c (k.val + 1)]
    ihave HGk := HGk $$ [Vsxa Vrxa Vsaa Vraa Vsxb Vrxb Vsab Vrab]
    · unfold HopD
      isplitl [Vsxa]; · iexact Vsxa
      isplitl [Vrxa]; · iexact Vrxa
      isplitl [Vsaa]; · iexact Vsaa
      isplitl [Vraa]; · iexact Vraa
      isplitl [Vsxb]; · iexact Vsxb
      isplitl [Vrxb]; · iexact Vrxb
      isplitl [Vsab]; · iexact Vsab
      iexact Vrab
    isplitl [Hxa1 Hxb1 Haa Hab Haa1 Hab1 Hxd Hyd Hxak Hxbk]
    · rw [← hpk]
      isplitl [Hxa1]; · iexact Hxa1
      isplitl [Hxb1]; · iexact Hxb1
      isplitl [Haa1]; · iexact Haa1
      isplitl [Hab1]; · iexact Hab1
      isplitl [Haa]; · rw [par_succ2]; iexact Haa
      isplitl [Hab]; · rw [par_succ2]; iexact Hab
      iapply (free_next c k)
      isplitl [Hxd]; · iexact Hxd
      isplitl [Hyd]; · iexact Hyd
      isplitl [Hxak]; · iexact Hxak
      iexact Hxbk
    isplitl [Hta]; · iapply Sl_any; iexact Hta
    isplitl [Htb]; · iapply Sl_any; iexact Htb
    isplitl [HF0]; · iexact HF0
    isplitl [HF1]; · iexact HF1
    isplitl [HGk]; · iexact HGk
    isplitl [Ho]; · iexact Ho
    isplitr; · iexact HK
    iexact Hlev

end Cert.Moe

end
-- ==== Proof.Back.lean ====
/-
# The hops together, the last transfers, the result written
-/
module

public import proofs.«01_k».proof.Proof.Front
public import proofs.«01_k».proof.Proof.StepFirst
public import proofs.«01_k».proof.Proof.StepLater

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- A hop, the first or a later one. -/
theorem t1_step (c : Dev nD) (v5 v7 : BitVec 32) (v50 : FVec F S1024x1024 .bf16) (v51 : Vec F S1x1024x1024 .bf16)
    (t : Fin k0_t1_loop.trips) (u : Unit) :
    I1 m K c t.val ⊢ wp frame (wpE (defs₀ (F := F)) 𝒱₀ (c : Thread nD τ) none) Set.univ
      (k0_t1_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) v50 v51 t u)
      (fun _ => I1 m K c (t.val + 1)) := by
  by_cases h0 : t.val = 0
  · rw [h0]
    exact t1_step_first m K c v5 v7 v50 v51 t u h0
  · have ht : t.val < 8 := lt_of_lt_of_eq t.isLt trips1
    have hk : t.val = (⟨t.val - 1, by omega⟩ : Fin 7).val + 1 := by show t.val = t.val - 1 + 1; omega
    rw [hk]
    exact t1_step_later m K c v5 v7 v50 v51 t u ⟨t.val - 1, by omega⟩ hk

/-- The last transfers to come. -/
def LastA (c : Dev nD) : sProp 𝕄 :=
  iprop((atPos ER (cell c (.inl .sfa)) 0 ∅ 0 ∗ dutyTok ER (cell c (.inl .sfa)) 0 false)
    ∗ (atPos ER (cell c (.inl .rfa)) 0 ∅ 0 ∗ cred (tallyAt (cell c (.inl .rfa)) () (amt (.inl .rfa))) ∗ dutyTok ER (cell (nxt c) (.inl .rfa)) 0 false))
def LastB (c : Dev nD) : sProp 𝕄 :=
  iprop((atPos ER (cell c (.inl .sfb)) 0 ∅ 0 ∗ dutyTok ER (cell c (.inl .sfb)) 0 false)
    ∗ (atPos ER (cell c (.inl .rfb)) 0 ∅ 0 ∗ cred (tallyAt (cell c (.inl .rfb)) () (amt (.inl .rfb))) ∗ dutyTok ER (cell (prv c) (.inl .rfb)) 0 false))

section
variable {α : Type} {Q : α → sProp (MT nD τ sig Unit (Elt F) ℕ UU ℕ)} (c : Dev nD)

theorem pay_rfa : iprop(Sl (nxt c) faM (isB (accA m c 7)) ∗ emp) ⊢ pay m (nxt c) false (.inl .rfa) := by
  show _ ⊢ Sl (nxt c) faM (isF (accA m (prv (nxt c)) 7))
  rw [prv_nxt]
  iintro ⟨H, -⟩
  iexact H

theorem send_fa {n' : Dev nD} (hn : n' = nxt c) {src' : Memref sig .tc .vmem S1024x1024 .bf16} (hsrc' : src' = aaS 1) (l : Debts)
    {hsc : faM.view.ref.isScScratch = false} {hsrc : src'.view.WordExact} {hdst : faM.view.WordExact}
    {hsem : DmaTarget.Typed .vmem (.dma cc0_scratch18.sem) (.remote (Dev.tc n' : Thread nD τ) faM (.dma cc0_scratch17.sem) hsc)}
    {k : PUnit → Prog (TpuEff nD τ sig (Elt F) Λ₀ .tc) α} :
    iprop(records m K ∗ Sl c (aaS 1) (isB (accA m c 7)) ∗ Sl (nxt c) faM anyv
        ∗ owesE c ((nxt c, .inl .rfa) :: l) ∗ dutyTok ER (cell c (.inl .sfa)) 0 false ∗ dutyTok ER (cell (nxt c) (.inl .rfa)) 0 false)
      ⊢ iprop(((cred (tallyAt (cell c (.inl .sfa)) () (amt (.inl .sfa))) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.remote (Dev.tc n' : Thread nD τ) faM (.dma cc0_scratch17.sem) hsc) (.dma cc0_scratch18.sem) hsrc hdst hsem) k) Q) := by
  iintro ⟨#HK, Hs, Hd, Ho, Ht1, Ht2⟩ Hk
  iapply (wp_xsend m K c (dst := faM) hn hsrc' rfl (.inl .sfa) (.inl .rfa) sem_sfa sem_rfa
    (show faM.view.dmaCredit = NA from rfl) rfl l (isB (accA m c 7)) anyv iprop(emp) (Sl_any c _) (pay_rfa m c)) $$ [Hs Hd Ho Ht1 Ht2]
  · isplitr; · iexact HK
    isplitl [Hs]; · iexact Hs
    isplitl [Hd]; · iexact Hd
    isplitr; · iempintro
    isplitl [Ho]; · iexact Ho
    isplitl [Ht1]; · iexact Ht1
    iexact Ht2
  iexact Hk

theorem pay_rfb : iprop(Sl (prv c) fbM (isB (accB m c 7)) ∗ emp) ⊢ pay m (prv c) false (.inl .rfb) := by
  show _ ⊢ Sl (prv c) fbM (isF (accB m (nxt (prv c)) 7))
  rw [nxt_prv]
  iintro ⟨H, -⟩
  iexact H

theorem send_fb {n' : Dev nD} (hn : n' = prv c) {src' : Memref sig .tc .vmem S1024x1024 .bf16} (hsrc' : src' = abS 1) (l : Debts)
    {hsc : fbM.view.ref.isScScratch = false} {hsrc : src'.view.WordExact} {hdst : fbM.view.WordExact}
    {hsem : DmaTarget.Typed .vmem (.dma cc0_scratch20.sem) (.remote (Dev.tc n' : Thread nD τ) fbM (.dma cc0_scratch19.sem) hsc)}
    {k : PUnit → Prog (TpuEff nD τ sig (Elt F) Λ₀ .tc) α} :
    iprop(records m K ∗ Sl c (abS 1) (isB (accB m c 7)) ∗ Sl (prv c) fbM anyv
        ∗ owesE c ((prv c, .inl .rfb) :: l) ∗ dutyTok ER (cell c (.inl .sfb)) 0 false ∗ dutyTok ER (cell (prv c) (.inl .rfb)) 0 false)
      ⊢ iprop(((cred (tallyAt (cell c (.inl .sfb)) () (amt (.inl .sfb))) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.remote (Dev.tc n' : Thread nD τ) fbM (.dma cc0_scratch19.sem) hsc) (.dma cc0_scratch20.sem) hsrc hdst hsem) k) Q) := by
  iintro ⟨#HK, Hs, Hd, Ho, Ht1, Ht2⟩ Hk
  iapply (wp_xsend m K c (dst := fbM) hn hsrc' rfl (.inl .sfb) (.inl .rfb) sem_sfb sem_rfb
    (show fbM.view.dmaCredit = NA from rfl) rfl l (isB (accB m c 7)) anyv iprop(emp) (Sl_any c _) (pay_rfb m c)) $$ [Hs Hd Ho Ht1 Ht2]
  · isplitr; · iexact HK
    isplitl [Hs]; · iexact Hs
    isplitl [Hd]; · iexact Hd
    isplitr; · iempintro
    isplitl [Ho]; · iexact Ho
    isplitl [Ht1]; · iexact Ht1
    iexact Ht2
  iexact Hk

end

/-- Before the hops, but for what the staging of tokens has yet to do. -/
def S9 (c : Dev nD) : sProp 𝕄 :=
  iprop(records m K ∗ levAts L lv ∗ owesE c (debtsFrom c 0) ∗ Sl c ixM (fun v => v = ixV m c) ∗ Free m c 0 ∗ Free m c 1
    ∗ (Sl c (xaS 0) (isTok (tokA m c) (numA m c)) ∗ Sl c (xbS 0) anyv ∗ Sl c (aaS 0) anyv ∗ Sl c (abS 0) anyv ∗ Sl c (aaS 1) anyv ∗ Sl c (abS 1) anyv
      ∗ Sl (nxt c) (xaS 1) anyv ∗ Sl (prv c) (xbS 1) anyv)
    ∗ (Sl (nxt c) faM anyv ∗ Sl (prv c) fbM anyv) ∗ (Sl c taM anyv ∗ Sl c tbM anyv) ∗ Gh c 0 ∗ LastA c ∗ LastB c)

/-- After the first of the two last transfers, the second under way. -/
def S10 (c : Dev nD) : sProp 𝕄 :=
  iprop(records m K ∗ levAts L lv ∗ owesE c [] ∗ Sl c ixM (fun v => v = ixV m c) ∗ Free m c 0 ∗ Free m c 1
    ∗ (Sl c (xaS 1) anyv ∗ Sl c (xbS 1) anyv ∗ Sl c (xaS 0) anyv ∗ Sl c (xbS 0) anyv ∗ Sl c (aaS 0) anyv ∗ Sl c (abS 0) anyv ∗ Sl c (aaS 1) anyv)
    ∗ (Sl c taM anyv ∗ Sl c tbM anyv) ∗ Gh c 8
    ∗ (semVal (cell c (.inl .sfa)) 0 ∗ semVal (cell c (.inl .rfa)) 0 ∗ Sl c faM (isF (accA m (prv c) 7)))
    ∗ (atPos ER (cell c (.inl .sfb)) 0 ∅ 0 ∗ cred (tallyAt (cell c (.inl .sfb)) () (amt (.inl .sfb))))
    ∗ (atPos ER (cell c (.inl .rfb)) 0 ∅ 0 ∗ cred (tallyAt (cell c (.inl .rfb)) () (amt (.inl .rfb)))))

theorem part9_run (c : Dev nD) (v5 v7 : BitVec 32) (v51 : Vec F S1x1024x1024 .bf16) :
    S9 m K c ⊢ wp frame (wpE (defs₀ (F := F)) 𝒱₀ (c : Thread nD τ) none) Set.univ (k0_part9 xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) (k0_pay31 (un (xV m c 1))) v51)
      (fun _ => S10 m K c) := by
  have h7 : par 7 = 1 := rfl
  have h8 : par 8 = 0 := rfl
  simp only [k0_part9_eq_skeleton]
  unfold k0_part9_skel
  simp only [Prog.lift, Prog.bind_op, Prog.bind_ret, Prog.pure_eq_ret]
  unfold S9
  iintro ⟨#HK, #Hlev, Ho, Hix, HF0, HF1, ⟨Hxa, Hxb, Haa, Hab, Haa1, Hab1, Hxd, Hyd⟩, ⟨Hfa, Hfb⟩, ⟨Hta, Htb⟩, HG, HLA, HLB⟩
  iapply (store_tok c xbM 0 anyv) $$ Hxb
  iintro Hxb
  iapply (load_ix m c 1 rfl) $$ Hix
  iintro Hix
  iapply (load_dead c xbM 0 1024 2 (by decide) (isTokX _)) $$ Hxb
  iintro Hxb
  iapply (store_num c xbM 0 _) $$ Hxb
  iintro Hxb
  iapply (Scf.wp_for_bind frame (wpE (defs₀ (F := F)) 𝒱₀ (c : Thread nD τ) none) Set.univ _ _ _ k0_t1_ok _ _
      (fun h _ => I1 m K c h) (fun t u => t1_step m K c v5 v7 (k0_pay31 (un (xV m c 1))) v51 t u)) $$ [Ho HF0 HF1 Hxa Hxb Haa Hab Haa1 Hab1 Hxd Hyd Hta Htb HG]
  · unfold I1
    rw [Mem_zero]
    isplitl [Hxa Hxb Haa Hab Haa1 Hab1 Hxd Hyd]
    · isplitl [Hxa]; · iexact Hxa
      isplitl [Hxb]; · iexact Hxb
      isplitl [Haa]; · iexact Haa
      isplitl [Hab]; · iexact Hab
      isplitl [Haa1]; · iexact Haa1
      isplitl [Hab1]; · iexact Hab1
      isplitl [Hxd]; · iexact Hxd
      iexact Hyd
    isplitl [Hta]; · iexact Hta
    isplitl [Htb]; · iexact Htb
    isplitl [HF0]; · iexact HF0
    isplitl [HF1]; · iexact HF1
    isplitl [HG]; · iexact HG
    isplitl [Ho]; · iexact Ho
    isplitr; · iexact HK
    iexact Hlev
  iintro %_u HI
  rw [show Scf.trips k0_t1_loop.lb k0_t1_loop.ub k0_t1_loop.st = 8 from trips1]
  unfold I1
  rw [Mem_succ, if_neg (by decide), h7, h8, debtsFrom_last]
  unfold lastDebts LastA LastB
  icases HI with ⟨⟨Hxa, Hxb, Haa, Hab, Haa0, Hab0, Hxa0, Hxb0⟩, Hta, Htb, HF0, HF1, HG, Ho, -, -⟩
  icases HLA with ⟨⟨Psfa, Tsfa⟩, ⟨Prfa, Crfa, Trfa⟩⟩
  icases HLB with ⟨⟨Psfb, Tsfb⟩, ⟨Prfb, Crfb, Trfb⟩⟩
  iapply (send_fa m K c (dev7_eq c) (slot_congr aaM rfl) [(prv c, .inl .rfb)]) $$ [Haa Hfa Ho Tsfa Trfa]
  · isplitr; · iexact HK
    isplitl [Haa]; · iexact Haa
    isplitl [Hfa]; · iexact Hfa
    isplitl [Ho]; · iexact Ho
    isplitl [Tsfa]; · iexact Tsfa
    iexact Trfa
  iintro ⟨Csfa, Ho⟩
  iapply (send_fb m K c (dev8_eq c) (slot_congr abM rfl) []) $$ [Hab Hfb Ho Tsfb Trfb]
  · isplitr; · iexact HK
    isplitl [Hab]; · iexact Hab
    isplitl [Hfb]; · iexact Hfb
    isplitl [Ho]; · iexact Ho
    isplitl [Tsfb]; · iexact Tsfb
    iexact Trfb
  iintro ⟨Csfb, Ho⟩
  iapply (xwaitA m K c (.inl .sfa) (by simp) rfl sem_sfa [] (fun p hp => absurd hp List.not_mem_nil)) $$ [Csfa Ho Psfa]
  · isplitr; · iexact HK
    isplitr; · iexact Hlev
    isplitl [Csfa]; · iexact Csfa
    isplitl [Ho]; · iexact Ho
    iexact Psfa
  iintro ⟨Ho, Vsfa, Hp⟩
  ihave Haa := (show pay m c false (.inl .sfa) ⊢ Sl c (aaS 1) anyv from .rfl) $$ Hp
  iapply (xwaitA m K c (.inl .rfa) (by simp) rfl sem_rfa [] (fun p hp => absurd hp List.not_mem_nil)) $$ [Crfa Ho Prfa]
  · isplitr; · iexact HK
    isplitr; · iexact Hlev
    isplitl [Crfa]; · iexact Crfa
    isplitl [Ho]; · iexact Ho
    iexact Prfa
  iintro ⟨Ho, Vrfa, Hp⟩
  ihave Hfa := (show pay m c false (.inl .rfa) ⊢ Sl c faM (isF (accA m (prv c) 7)) from .rfl) $$ Hp
  rw [wp_ret]; imodintro
  unfold S10
  isplitr; · iexact HK
  isplitr; · iexact Hlev
  isplitl [Ho]; · iexact Ho
  isplitl [Hix]; · iexact Hix
  isplitl [HF0]; · iexact HF0
  isplitl [HF1]; · iexact HF1
  isplitl [Hxa Hxb Haa Haa0 Hab0 Hxa0 Hxb0]
  · isplitl [Hxa]; · iapply Sl_any; iexact Hxa
    isplitl [Hxb]; · iapply Sl_any; iexact Hxb
    isplitl [Hxa0]; · iexact Hxa0
    isplitl [Hxb0]; · iexact Hxb0
    isplitl [Haa0]; · iexact Haa0
    isplitl [Hab0]; · iexact Hab0
    iexact Haa
  isplitl [Hta Htb]
  · isplitl [Hta]; · iexact Hta
    iexact Htb
  isplitl [HG]; · iexact HG
  isplitl [Vsfa Vrfa Hfa]
  · isplitl [Vsfa]; · iexact Vsfa
    isplitl [Vrfa]; · iexact Vrfa
    iexact Hfa
  isplitl [Psfb Csfb]
  · isplitl [Psfb]; · iexact Psfb
    iexact Csfb
  isplitl [Prfb]; · iexact Prfb
  iexact Crfb

/-! ## The result written -/

/-- A block without its leading unit axis. -/
def de {α : Type} (w : S1x1024x1024.Idx → α) : S1024x1024.Idx → α := fun y => w (Shape.reshapeEquiv squeezes_S1x1024x1024_S1024x1024.numel_eq y)

theorem row_lt (y : S2048x1024.Idx) : (y 0 : Fin 2048).val - 1024 < 1024 := by
  have h : (y 0 : Fin 2048).val < 2048 := (y 0 : Fin 2048).isLt
  omega

/-- Device `c`'s result: its A tokens' sums above, its B tokens' below. -/
def outV (c : Dev nD) : S2048x1024.Idx → Elt F .f32 := fun y =>
  if h : (y 0 : Fin 2048).val < 1024 then k0_pay1 (de (accA m (prv c) 7)) (ix2 (⟨(y 0 : Fin 2048).val, h⟩ : Fin 1024) (y 1 : Fin 1024))
  else k0_pay2 (de (accB m (nxt c) 7)) (ix2 (⟨(y 0 : Fin 2048).val - 1024, row_lt y⟩ : Fin 1024) (y 1 : Fin 1024))

omit [FloatOps F] in
theorem rows_at (o : ℕ) {inb : ∀ a, (![o, 0] : Fin 2 → ℕ) a + S1024x1024.size a ≤ S2048x1024.size a} (x : S1024x1024.Idx) (y : S2048x1024.Idx)
    (h0 : o + (x 0 : Fin 1024).val = (y 0 : Fin 2048).val) (h1 : (x 1 : Fin 1024).val = (y 1 : Fin 1024).val) :
    (Rect.unit (s := S2048x1024) ![o, 0] S1024x1024.size inb).emb x = y := by
  refine @funext (Fin 2) (fun a => Fin (S2048x1024.size a)) _ _ fun a => Fin.ext ?_
  fin_cases a
  · show o + 1 * (x 0).val = (y 0).val; omega
  · show 0 + 1 * (x 1).val = (y 1).val; omega

omit [FloatOps F] in
theorem rows_val (o : ℕ) {inb : ∀ a, (![o, 0] : Fin 2 → ℕ) a + S1024x1024.size a ≤ S2048x1024.size a} (x : S1024x1024.Idx) :
    (((Rect.unit (s := S2048x1024) ![o, 0] S1024x1024.size inb).emb x : S2048x1024.Idx) 0 : Fin 2048).val = o + 1 * (x 0 : Fin 1024).val := rfl

section
variable {α : Type} {Q : α → sProp (MT nD τ sig Unit (Elt F) ℕ UU ℕ)} (c : Dev nD)

theorem load_out_dead {r : LoadRect S2048x1024} {hl : outM.view.LoadsAt r} {k : Prog (TpuEff nD τ sig (Elt F) Λ₀ .tc) α} (P : (S2048x1024.Idx → Elt F .f32) → Prop) :
    Sl c outM P ⊢ iprop((Sl c outM P -∗ wp frame (wpE (defs₀ (F := F)) 𝒱₀ (c : Thread nD τ) none) Set.univ k Q) -∗ wp frame (wpE (defs₀ (F := F)) 𝒱₀ (c : Thread nD τ) none) Set.univ (.op (.load outM r hl) fun _ => k) Q) := by
  iintro H Hk
  iapply (load_view c outM P) $$ H
  iintro %v %hv H
  iapply Hk; iexact H

abbrev upper (c : Dev nD) : (S2048x1024.Idx → Elt F .f32) → Prop := fun v => ∀ y : S2048x1024.Idx, (y 0 : Fin 2048).val < 1024 → v y = outV m c y

theorem store_upper {inb : ∀ a, (![0, 0] : Fin 2 → ℕ) a + S1024x1024.size a ≤ S2048x1024.size a}
    {hx : (outM.access (Rect.unit (s := S2048x1024) ![0, 0] S1024x1024.size inb)).Stores Finset.univ} {hm}
    {k : PUnit → Prog (TpuEff nD τ sig (Elt F) Λ₀ .tc) α} :
    Sl c outM anyv ⊢ iprop((Sl c outM (upper m c) -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S2048x1024) ![0, 0] S1024x1024.size inb) (k0_pay1 (de (accA m (prv c) 7))) Finset.univ hx hm) k) Q) :=
  store_view c outM anyv (upper m c) (fun v v' _ h _ y hy => by
    have e := rows_at 0 (inb := inb) (ix2 (⟨(y 0 : Fin 2048).val, hy⟩ : Fin 1024) (y 1 : Fin 1024)) y (Nat.zero_add _) rfl
    have h' := h (ix2 (⟨(y 0 : Fin 2048).val, hy⟩ : Fin 1024) (y 1 : Fin 1024))
    rw [e] at h'
    unfold outV
    rw [dif_pos hy]
    exact h')

theorem store_lower {inb : ∀ a, (![1024, 0] : Fin 2 → ℕ) a + S1024x1024.size a ≤ S2048x1024.size a}
    {hx : (outM.access (Rect.unit (s := S2048x1024) ![1024, 0] S1024x1024.size inb)).Stores Finset.univ} {hm}
    {k : PUnit → Prog (TpuEff nD τ sig (Elt F) Λ₀ .tc) α} :
    Sl c outM (upper m c) ⊢ iprop((Sl c outM (fun v => v = outV m c) -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S2048x1024) ![1024, 0] S1024x1024.size inb) (k0_pay2 (de (accB m (nxt c) 7))) Finset.univ hx hm) k) Q) :=
  store_view c outM (upper m c) (fun v => v = outV m c) (fun v v' hv h hn => funext fun y => by
    by_cases hy : (y 0 : Fin 2048).val < 1024
    · rw [hn y (fun x hx => by
        have h1 := congrArg (fun z : S2048x1024.Idx => (z 0 : Fin 2048).val) hx
        have h2 := rows_val 1024 (inb := inb) x
        have h3 := h2.symm.trans h1
        omega)]
      exact hv y hy
    · have hlt : (y 0 : Fin 2048).val < 2048 := (y 0 : Fin 2048).isLt
      have e := rows_at 1024 (inb := inb) (ix2 (⟨(y 0 : Fin 2048).val - 1024, row_lt y⟩ : Fin 1024) (y 1 : Fin 1024)) y
        (by show 1024 + ((y 0 : Fin 2048).val - 1024) = (y 0 : Fin 2048).val; omega) rfl
      have h' := h (ix2 (⟨(y 0 : Fin 2048).val - 1024, row_lt y⟩ : Fin 1024) (y 1 : Fin 1024))
      rw [e] at h'
      unfold outV
      rw [dif_neg hy]
      exact h')

end

end Cert.Moe

end
-- ==== Proof.Body.lean ====
/-
# The whole body
-/
module

public import proofs.«01_k».proof.Proof.Back

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- The slots of the exchange, at any contents. -/
def Slots (c : Dev nD) : sProp 𝕄 :=
  iprop((Sl c (xaS 0) anyv ∗ Sl c (xaS 1) anyv) ∗ (Sl c (xbS 0) anyv ∗ Sl c (xbS 1) anyv) ∗ (Sl c (aaS 0) anyv ∗ Sl c (aaS 1) anyv)
    ∗ (Sl c (abS 0) anyv ∗ Sl c (abS 1) anyv) ∗ Sl c faM anyv ∗ Sl c fbM anyv ∗ Sl c taM anyv ∗ Sl c tbM anyv)

/-- The barrier and the last transfers' cells, closed. -/
def GD (c : Dev nD) : sProp 𝕄 :=
  iprop(semVal (cell c (.inl .bar)) 0 ∗ semVal (cell c (.inl .sfa)) 0 ∗ semVal (cell c (.inl .rfa)) 0 ∗ semVal (cell c (.inl .sfb)) 0 ∗ semVal (cell c (.inl .rfb)) 0)

/-- What the body of device `c` starts from. -/
def Pre (c : Dev nD) : sProp 𝕄 :=
  iprop(records m K ∗ levAts L lv ∗ BarG c ∗ owesE c (debts₀ c) ∗ Stg m c ∗ XB m c ∗ Free m c 0 ∗ Free m c 1
    ∗ Slots c ∗ Sl c outM anyv ∗ Gh c 0 ∗ LastA c ∗ LastB c)

/-- What it ends with. -/
def Post (c : Dev nD) : sProp 𝕄 :=
  iprop(owesE c [] ∗ Stg m c ∗ XB m c ∗ Free m c 0 ∗ Free m c 1
    ∗ Slots c ∗ Sl c outM (fun v => v = outV m c) ∗ Gh c 8 ∗ GD c)

/-- The hops' part and the rest of the body. -/
theorem tail_run (c : Dev nD) (v5 v7 : BitVec 32) (v51 : Vec F S1x1024x1024 .bf16)
    {h1 h2 h3 h4 h5 h6 h7 h8 h9 h10 h11 h12 h13 h14 h15 h16 h17 h18} :
    iprop(S9 m K c ∗ Sl c outM anyv) ⊢ wp frame (wpE (defs₀ (F := F)) 𝒱₀ (c : Thread nD τ) none) Set.univ (do
      k0_part9 xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 c (dw c) v5 v7 (rtr m c) (k0_pay31 (un (xV m c 1))) v51
      let v75 : Memref sig .tc .vmem S1x1024x1024 .bf16 := abM.slice (Rect.unit (s := S2x1024x1024) ![1, 0, 0] S1x1024x1024.size h1) h2
      let v76 : Memref sig .tc .vmem S1024x1024 .bf16 := v75.squeeze S1024x1024 h3
      Prog.lift (.waitDma2 cc0_scratch19.sem fbM v76 h4 h5)
      Prog.lift (.waitDma2 cc0_scratch20.sem v76 fbM h6 h7)
      let v81 : Vec F S1024x1024 .bf16 ← Prog.lift (.load faM (Rect.unit (s := S1024x1024) ![0, 0] S1024x1024.size h8).toLoadRect h9)
      let v83 : Vec F S1024x1024 .f32 ← Prog.lift (.load outM (Rect.unit (s := S2048x1024) ![0, 0] S1024x1024.size h10).toLoadRect h11)
      Prog.lift (.store outM (Rect.unit (s := S2048x1024) ![0, 0] S1024x1024.size h10) (k0_pay1 v81) Finset.univ h12 h13)
      let v84 : Vec F S1024x1024 .bf16 ← Prog.lift (.load fbM (Rect.unit (s := S1024x1024) ![0, 0] S1024x1024.size h8).toLoadRect h14)
      let v86 : Vec F S1024x1024 .f32 ← Prog.lift (.load outM (Rect.unit (s := S2048x1024) ![1024, 0] S1024x1024.size h15).toLoadRect h16)
      Prog.lift (.store outM (Rect.unit (s := S2048x1024) ![1024, 0] S1024x1024.size h15) (k0_pay2 v84) Finset.univ h17 h18)
      (pure ⟨⟩ : Prog (TpuEff nD τ sig (Elt F) Λ₀ .tc) PUnit))
      (fun _ => iprop(owesE c [] ∗ Sl c ixM (fun v => v = ixV m c) ∗ Free m c 0 ∗ Free m c 1 ∗ Slots c ∗ Sl c outM (fun v => v = outV m c) ∗ Gh c 8
        ∗ semVal (cell c (.inl .sfa)) 0 ∗ semVal (cell c (.inl .rfa)) 0 ∗ semVal (cell c (.inl .sfb)) 0 ∗ semVal (cell c (.inl .rfb)) 0)) := by
  rw [Idealize.SL.Sem.wp_bind]
  iintro ⟨H9, Hout⟩
  iapply (wp_wand frame (wpE (defs₀ (F := F)) 𝒱₀ (c : Thread nD τ) none) Set.univ) $$ [H9]
  · iapply (part9_run m K c v5 v7 v51); iexact H9
  iintro %_u H
  simp only [Prog.lift, Prog.bind_op, Prog.bind_ret, Prog.pure_eq_ret]
  unfold S10
  icases H with ⟨#HK, #Hlev, Ho, Hix, HF0, HF1, ⟨Hxa1, Hxb1, Hxa0, Hxb0, Haa0, Hab0, Haa1⟩, ⟨Hta, Htb⟩, HG, ⟨Vsfa, Vrfa, Hfa⟩, ⟨Psfb, Csfb⟩, ⟨Prfb, Crfb⟩⟩
  iapply (xwaitA m K c (.inl .sfb) (by simp) rfl sem_sfb [] (fun p hp => absurd hp List.not_mem_nil)) $$ [Csfb Ho Psfb]
  · isplitr; · iexact HK
    isplitr; · iexact Hlev
    isplitl [Csfb]; · iexact Csfb
    isplitl [Ho]; · iexact Ho
    iexact Psfb
  iintro ⟨Ho, Vsfb, Hp⟩
  ihave Hab1 := (show pay m c false (.inl .sfb) ⊢ Sl c (abS 1) anyv from .rfl) $$ Hp
  iapply (xwaitA m K c (.inl .rfb) (by simp) rfl sem_rfb [] (fun p hp => absurd hp List.not_mem_nil)) $$ [Crfb Ho Prfb]
  · isplitr; · iexact HK
    isplitr; · iexact Hlev
    isplitl [Crfb]; · iexact Crfb
    isplitl [Ho]; · iexact Ho
    iexact Prfb
  iintro ⟨Ho, Vrfb, Hp⟩
  ihave Hfb := (show pay m c false (.inl .rfb) ⊢ Sl c fbM (fun v => v = de (accB m (nxt c) 7)) from .rfl) $$ Hp
  ihave Hfa := (show Sl c faM (isF (accA m (prv c) 7)) ⊢ Sl c faM (fun v => v = de (accA m (prv c) 7)) from .rfl) $$ Hfa
  iapply (load_all c faM (de (accA m (prv c) 7))) $$ Hfa
  iintro Hfa
  iapply (load_out_dead c anyv) $$ Hout
  iintro Hout
  iapply (store_upper m c) $$ Hout
  iintro Hout
  iapply (load_all c fbM (de (accB m (nxt c) 7))) $$ Hfb
  iintro Hfb
  iapply (load_out_dead c (upper m c)) $$ Hout
  iintro Hout
  iapply (store_lower m c) $$ Hout
  iintro Hout
  rw [wp_ret]; imodintro
  unfold Slots
  isplitl [Ho]; · iexact Ho
  isplitl [Hix]; · iexact Hix
  isplitl [HF0]; · iexact HF0
  isplitl [HF1]; · iexact HF1
  isplitl [Hxa1 Hxb1 Hxa0 Hxb0 Haa0 Hab0 Haa1 Hab1 Hfa Hfb Hta Htb]
  · isplitl [Hxa0 Hxa1]
    · isplitl [Hxa0]; · iexact Hxa0
      iexact Hxa1
    isplitl [Hxb0 Hxb1]
    · isplitl [Hxb0]; · iexact Hxb0
      iexact Hxb1
    isplitl [Haa0 Haa1]
    · isplitl [Haa0]; · iexact Haa0
      iexact Haa1
    isplitl [Hab0 Hab1]
    · isplitl [Hab0]; · iexact Hab0
      iexact Hab1
    isplitl [Hfa]; · iapply Sl_any; iexact Hfa
    isplitl [Hfb]; · iapply Sl_any; iexact Hfb
    isplitl [Hta]; · iexact Hta
    iexact Htb
  isplitl [Hout]; · iexact Hout
  isplitl [HG]; · iexact HG
  isplitl [Vsfa]; · iexact Vsfa
  isplitl [Vrfa]; · iexact Vrfa
  isplitl [Vsfb]; · iexact Vsfb
  iexact Vrfb

/-- The whole body. -/
theorem body_run (c : Dev nD) : Pre m K c ⊢ wp frame (wpE (defs₀ (F := F)) 𝒱₀ (c : Thread nD τ) none) Set.univ (cc0_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21) (fun _ => Post m c) := by
  rw [show (cc0_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 : Prog (TpuEff nD τ sig (Elt F) Λ₀ .tc) PUnit) = cc0_body_skel xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 from by rw [cc0_body_eq_skeleton]]
  unfold cc0_body_skel Pre Slots
  rw [Idealize.SL.Sem.wp_bind]
  iintro ⟨#HK, #Hlev, HBar, Ho, HStg, HX, HF0, HF1, ⟨⟨Hxa0, Hxa1⟩, ⟨Hxb0, Hxb1⟩, ⟨Haa0, Haa1⟩, ⟨Hab0, Hab1⟩, Hfa, Hfb, Hta, Htb⟩, Hout, HG, HLA, HLB⟩
  iapply (wp_wand frame (wpE (defs₀ (F := F)) 𝒱₀ (c : Thread nD τ) none) Set.univ) $$ [HBar Ho HStg HX HF0 Hxa1 Hfa Hxb1 Hfb]
  · iapply (part7_run m K c)
    unfold S7
    isplitr; · iexact HK
    isplitr; · iexact Hlev
    isplitl [HBar]; · iexact HBar
    isplitl [Ho]; · iexact Ho
    isplitl [HStg]; · iexact HStg
    isplitl [HX]; · iexact HX
    isplitl [HF0]; · iexact HF0
    isplitl [Hxa1 Hfa]
    · isplitl [Hxa1]; · iexact Hxa1
      iexact Hfa
    isplitl [Hxb1]; · iexact Hxb1
    iexact Hfb
  iintro %r ⟨%hr, H⟩
  obtain ⟨d0, v2, v5, v7, v15⟩ := r
  obtain ⟨h1, h2, h3⟩ := hr
  dsimp only at h1 h2 h3
  subst h1 h2 h3
  rw [Idealize.SL.Sem.wp_bind]
  unfold S8 Stg
  icases H with ⟨-, -, Vbar, Ho, ⟨Hrt, Hix⟩, HB, ⟨Hxd, Hfd⟩, ⟨Hyd, Hgd⟩⟩
  iapply (wp_wand frame (wpE (defs₀ (F := F)) 𝒱₀ (d0 : Thread nD τ) none) Set.univ) $$ [Ho Hix HB HF1 Hxa0 Hxb0]
  · iapply (part8_run m d0 (debtsFrom d0 0) (fun p hp => lt_of_le_of_lt (Nat.zero_le _) (debtsFrom_lev d0 0 p hp)))
    isplitr; · iexact Hlev
    isplitl [Ho]; · iexact Ho
    isplitl [Hix]; · iexact Hix
    isplitl [HB]; · iexact HB
    isplitl [HF1]; · iexact HF1
    isplitl [Hxa0]; · iexact Hxa0
    iexact Hxb0
  iintro %r ⟨%hr, Ho, Hix, HF0, HF1, HX, Hxa0, Hxb0⟩
  obtain ⟨v50, v51⟩ := r
  dsimp only at hr
  subst hr
  dsimp only
  iapply (wp_wand frame (wpE (defs₀ (F := F)) 𝒱₀ (d0 : Thread nD τ) none) Set.univ) $$ [Ho Hix HF0 HF1 Hxa0 Hxb0 Haa0 Haa1 Hab0 Hab1 Hxd Hfd Hyd Hgd Hta Htb HG HLA HLB Hout]
  · iapply (tail_run m K d0 v5 v7 v51)
    unfold S9
    isplitr [Hout]
    · isplitr; · iexact HK
      isplitr; · iexact Hlev
      isplitl [Ho]; · iexact Ho
      isplitl [Hix]; · iexact Hix
      isplitl [HF0]; · iexact HF0
      isplitl [HF1]; · iexact HF1
      isplitl [Hxa0 Hxb0 Haa0 Haa1 Hab0 Hab1 Hxd Hyd]
      · isplitl [Hxa0]; · iexact Hxa0
        isplitl [Hxb0]; · iexact Hxb0
        isplitl [Haa0]; · iexact Haa0
        isplitl [Hab0]; · iexact Hab0
        isplitl [Haa1]; · iexact Haa1
        isplitl [Hab1]; · iexact Hab1
        isplitl [Hxd]; · iexact Hxd
        iexact Hyd
      isplitl [Hfd Hgd]
      · isplitl [Hfd]; · iexact Hfd
        iexact Hgd
      isplitl [Hta Htb]
      · isplitl [Hta]; · iexact Hta
        iexact Htb
      isplitl [HG]; · iexact HG
      isplitl [HLA]; · iexact HLA
      iexact HLB
    iexact Hout
  iintro %_u ⟨Ho, Hix, HF0, HF1, HS, Hout, HG, Va, Vb, Vc, Vd⟩
  unfold Post Stg GD Slots
  isplitl [Ho]; · iexact Ho
  isplitl [Hrt Hix]
  · isplitl [Hrt]; · iexact Hrt
    iexact Hix
  isplitl [HX]; · iexact HX
  isplitl [HF0]; · iexact HF0
  isplitl [HF1]; · iexact HF1
  isplitl [HS]; · iexact HS
  isplitl [Hout]; · iexact Hout
  isplitl [HG]; · iexact HG
  isplitl [Vbar]; · iexact Vbar
  isplitl [Va]; · iexact Va
  isplitl [Vb]; · iexact Vb
  isplitl [Vc]; · iexact Vc
  iexact Vd

end Cert.Moe

end
-- ==== Proof.Bufs.lean ====
/-
# The scratch buffers, slot by slot and back
-/
module

public import proofs.«01_k».proof.Proof.Body

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem Sl_whole (c : Dev nD) (b : Ref sig .tc) (P : (b.ty.shape.Idx → Elt F b.ty.elt) → Prop) :
    (Sl c (Memref.whole b) P : sProp 𝕄)
      = iprop(∃ f : Buf (Elt F) (((c : Dev nD) : Thread nD τ).loc b), ⌜P f⌝ ∗ (((c : Thread nD τ).loc b) ↦{fullShare} f)) := by
  unfold Sl; simp only [Memref.view_whole, View.read_whole, View.set_whole]

section
variable (c : Dev nD) {cs : CoreSpace} {s s' : Shape} {e : EltTy} (M : Memref sig .tc cs s e) (r₀ r₁ : Rect s) (hr₀ : ∀ a, r₀.stride a = 1) (hr₁ : ∀ a, r₁.stride a = 1)
  (hq₀ : r₀.shape.Squeezes s') (hq₁ : r₁.shape.Squeezes s') (hd : Disjoint r₀.set r₁.set) (hu : r₀.set ∪ r₁.set = Finset.univ)

omit [FloatOps F] in
include hu in
theorem set_two : M.view.set = ((M.slice r₀ hr₀).squeeze s' hq₀).view.set ∪ ((M.slice r₁ hr₁).squeeze s' hq₁).view.set := by
  rw [set_slot, set_slot, ← View.setOn_univ, ← hu]
  exact Finset.map_union _ _

omit [FloatOps F] in
include hd in
theorem disj_two : Disjoint ((M.slice r₀ hr₀).squeeze s' hq₀).view.set ((M.slice r₁ hr₁).squeeze s' hq₁).view.set := by
  rw [set_slot, set_slot]
  exact (Finset.disjoint_map _).mpr hd

include hd hu in
/-- A buffer of two slots, slot by slot. -/
theorem two_split : (Sl c M anyv : sProp 𝕄) ⊢ iprop(Sl c ((M.slice r₀ hr₀).squeeze s' hq₀) anyv ∗ Sl c ((M.slice r₁ hr₁).squeeze s' hq₁) anyv) := by
  unfold Sl
  iintro ⟨%f, -, H⟩
  ihave H := (.of_eq (congrArg (fun S => (M.view.loc (c : Thread nD τ) ↦[S]{fullShare} f : sProp 𝕄)) (set_two M r₀ r₁ hr₀ hr₁ hq₀ hq₁ hu)) : _ ⊢ _) $$ H
  ihave H := (pointsTo_union (disj_two M r₀ r₁ hr₀ hr₁ hq₀ hq₁ hd)).1 $$ H
  icases H with ⟨H0, H1⟩
  isplitl [H0]
  · iexists f
    isplitr; · ipureintro; trivial
    iexact H0
  iexists f
  isplitr; · ipureintro; trivial
  iexact H1

include hd hu in
theorem two_join : iprop(Sl c ((M.slice r₀ hr₀).squeeze s' hq₀) anyv ∗ Sl c ((M.slice r₁ hr₁).squeeze s' hq₁) anyv) ⊢ (Sl c M anyv : sProp 𝕄) := by
  unfold Sl
  iintro ⟨⟨%f, -, H0⟩, ⟨%g, -, H1⟩⟩
  iexists (((M.slice r₁ hr₁).squeeze s' hq₁).view.set.piecewise g f)
  isplitr; · ipureintro; trivial
  iapply (.of_eq (congrArg (fun S => (M.view.loc (c : Thread nD τ) ↦[S]{fullShare} (((M.slice r₁ hr₁).squeeze s' hq₁).view.set.piecewise g f) : sProp 𝕄)) (set_two M r₀ r₁ hr₀ hr₁ hq₀ hq₁ hu).symm) : _ ⊢ _)
  iapply (pointsTo_join (disj_two M r₀ r₁ hr₀ hr₁ hq₀ hq₁ hd))
  isplitl [H0]; · iexact H0
  iexact H1

end

theorem disj_X : Disjoint (rX 0).set (rX 1).set := by
  rw [Finset.disjoint_left]
  intro i h0 h1
  have a0 := (Rect.mem_set_unit.mp h0 0).2
  have a1 := (Rect.mem_set_unit.mp h1 0).1
  change (i 0 : Fin 2).val < 0 + 1 at a0
  change 1 ≤ (i 0 : Fin 2).val at a1
  omega

theorem union_X : (rX 0).set ∪ (rX 1).set = Finset.univ := by
  refine Finset.eq_univ_iff_forall.mpr fun i => Finset.mem_union.mpr ?_
  have b0 : (i 0 : Fin 2).val < 2 := (i 0 : Fin 2).isLt
  have b1 : (i 1 : Fin 1024).val < 1024 := (i 1 : Fin 1024).isLt
  have b2 : (i 2 : Fin 1152).val < 1152 := (i 2 : Fin 1152).isLt
  by_cases h : (i 0 : Fin 2).val = 0
  · refine Or.inl (Rect.mem_set_unit.mpr fun a => ?_)
    fin_cases a
    · show 0 ≤ (i 0 : Fin 2).val ∧ (i 0 : Fin 2).val < 0 + 1; omega
    · show 0 ≤ (i 1 : Fin 1024).val ∧ (i 1 : Fin 1024).val < 0 + 1024; omega
    · show 0 ≤ (i 2 : Fin 1152).val ∧ (i 2 : Fin 1152).val < 0 + 1152; omega
  · refine Or.inr (Rect.mem_set_unit.mpr fun a => ?_)
    fin_cases a
    · show 1 ≤ (i 0 : Fin 2).val ∧ (i 0 : Fin 2).val < 1 + 1; omega
    · show 0 ≤ (i 1 : Fin 1024).val ∧ (i 1 : Fin 1024).val < 0 + 1024; omega
    · show 0 ≤ (i 2 : Fin 1152).val ∧ (i 2 : Fin 1152).val < 0 + 1152; omega
theorem disj_A : Disjoint (rA 0).set (rA 1).set := by
  rw [Finset.disjoint_left]
  intro i h0 h1
  have a0 := (Rect.mem_set_unit.mp h0 0).2
  have a1 := (Rect.mem_set_unit.mp h1 0).1
  change (i 0 : Fin 2).val < 0 + 1 at a0
  change 1 ≤ (i 0 : Fin 2).val at a1
  omega

theorem union_A : (rA 0).set ∪ (rA 1).set = Finset.univ := by
  refine Finset.eq_univ_iff_forall.mpr fun i => Finset.mem_union.mpr ?_
  have b0 : (i 0 : Fin 2).val < 2 := (i 0 : Fin 2).isLt
  have b1 : (i 1 : Fin 1024).val < 1024 := (i 1 : Fin 1024).isLt
  have b2 : (i 2 : Fin 1024).val < 1024 := (i 2 : Fin 1024).isLt
  by_cases h : (i 0 : Fin 2).val = 0
  · refine Or.inl (Rect.mem_set_unit.mpr fun a => ?_)
    fin_cases a
    · show 0 ≤ (i 0 : Fin 2).val ∧ (i 0 : Fin 2).val < 0 + 1; omega
    · show 0 ≤ (i 1 : Fin 1024).val ∧ (i 1 : Fin 1024).val < 0 + 1024; omega
    · show 0 ≤ (i 2 : Fin 1024).val ∧ (i 2 : Fin 1024).val < 0 + 1024; omega
  · refine Or.inr (Rect.mem_set_unit.mpr fun a => ?_)
    fin_cases a
    · show 1 ≤ (i 0 : Fin 2).val ∧ (i 0 : Fin 2).val < 1 + 1; omega
    · show 0 ≤ (i 1 : Fin 1024).val ∧ (i 1 : Fin 1024).val < 0 + 1024; omega
    · show 0 ≤ (i 2 : Fin 1024).val ∧ (i 2 : Fin 1024).val < 0 + 1024; omega

theorem split_xa (c : Dev nD) : (Sl c xaM anyv : sProp 𝕄) ⊢ iprop(Sl c (xaS 0) anyv ∗ Sl c (xaS 1) anyv) :=
  two_split c xaM (rX 0) (rX 1) (fun _ => rfl) (fun _ => rfl) _ _ disj_X union_X
theorem join_xa (c : Dev nD) : iprop(Sl c (xaS 0) anyv ∗ Sl c (xaS 1) anyv) ⊢ (Sl c xaM anyv : sProp 𝕄) :=
  two_join c xaM (rX 0) (rX 1) (fun _ => rfl) (fun _ => rfl) _ _ disj_X union_X

theorem split_xb (c : Dev nD) : (Sl c xbM anyv : sProp 𝕄) ⊢ iprop(Sl c (xbS 0) anyv ∗ Sl c (xbS 1) anyv) :=
  two_split c xbM (rX 0) (rX 1) (fun _ => rfl) (fun _ => rfl) _ _ disj_X union_X
theorem join_xb (c : Dev nD) : iprop(Sl c (xbS 0) anyv ∗ Sl c (xbS 1) anyv) ⊢ (Sl c xbM anyv : sProp 𝕄) :=
  two_join c xbM (rX 0) (rX 1) (fun _ => rfl) (fun _ => rfl) _ _ disj_X union_X

theorem split_aa (c : Dev nD) : (Sl c aaM anyv : sProp 𝕄) ⊢ iprop(Sl c (aaS 0) anyv ∗ Sl c (aaS 1) anyv) :=
  two_split c aaM (rA 0) (rA 1) (fun _ => rfl) (fun _ => rfl) _ _ disj_A union_A
theorem join_aa (c : Dev nD) : iprop(Sl c (aaS 0) anyv ∗ Sl c (aaS 1) anyv) ⊢ (Sl c aaM anyv : sProp 𝕄) :=
  two_join c aaM (rA 0) (rA 1) (fun _ => rfl) (fun _ => rfl) _ _ disj_A union_A

theorem split_ab (c : Dev nD) : (Sl c abM anyv : sProp 𝕄) ⊢ iprop(Sl c (abS 0) anyv ∗ Sl c (abS 1) anyv) :=
  two_split c abM (rA 0) (rA 1) (fun _ => rfl) (fun _ => rfl) _ _ disj_A union_A
theorem join_ab (c : Dev nD) : iprop(Sl c (abS 0) anyv ∗ Sl c (abS 1) anyv) ⊢ (Sl c abM anyv : sProp 𝕄) :=
  two_join c abM (rA 0) (rA 1) (fun _ => rfl) (fun _ => rfl) _ _ disj_A union_A

theorem split_st (c : Dev nD) : (Sl c stM anyv : sProp 𝕄) ⊢ iprop(Sl c (stS 0) anyv ∗ Sl c (stS 1) anyv) :=
  two_split c stM (rA 0) (rA 1) (fun _ => rfl) (fun _ => rfl) _ _ disj_A union_A
theorem join_st (c : Dev nD) : iprop(Sl c (stS 0) anyv ∗ Sl c (stS 1) anyv) ⊢ (Sl c stM anyv : sProp 𝕄) :=
  two_join c stM (rA 0) (rA 1) (fun _ => rfl) (fun _ => rfl) _ _ disj_A union_A

/-- A scratch buffer at some contents is a region held at any. -/
theorem Sl_of_scratch (c : Dev nD) (b : Ref sig .tc) :
    iprop(∃ f : Buf (Elt F) (((c : Dev nD) : Thread nD τ).loc b), (((c : Thread nD τ).loc b) ↦{fullShare} f)) ⊢ (Sl c (Memref.whole b) anyv : sProp 𝕄) := by
  rw [Sl_whole]
  iintro ⟨%f, H⟩
  iexists f
  isplitr; · ipureintro; trivial
  iexact H

theorem scratch_of_Sl (c : Dev nD) (b : Ref sig .tc) :
    (Sl c (Memref.whole b) anyv : sProp 𝕄) ⊢ iprop(∃ f : Buf (Elt F) (((c : Dev nD) : Thread nD τ).loc b), (((c : Thread nD τ).loc b) ↦{fullShare} f)) := by
  rw [Sl_whole]
  iintro ⟨%f, -, H⟩
  iexists f
  iexact H

end Cert.Moe

end
-- ==== Proof.Deal.lean ====
/-
# Semaphores, tickets and credits dealt at launch
-/
module

public import proofs.«01_k».proof.Proof.Bufs

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

def gk : Fin 4 → GK | 0 => .sfa | 1 => .rfa | 2 => .sfb | 3 => .rfb

/-- The kernel's own semaphores: the last transfers', the hops', the two local ones. -/
def osem : (Fin 4 ⊕ Fin 7 × HK) ⊕ Fin 2 → SemLoc sig
  | .inl (.inl i) => csem (.inl (gk i))
  | .inl (.inr x) => csem (.inr x)
  | .inr p => .dma (sldS p)

set_option maxRecDepth 20000 in
theorem ownSemFacts : Pipeline.OwnSemFacts cfg0.spec osem := by
  refine ⟨?_, ?_, ?_⟩
  · decide +kernel
  · have h : ∀ a b, osem a = osem b → a = b := by decide +kernel
    exact fun a b hab => h a b hab
  · decide +kernel

theorem bigSep_GK (Φ : GK → sProp 𝕄) : bigSep Finset.univ Φ = iprop(Φ .bar ∗ Φ .sfa ∗ Φ .rfa ∗ Φ .sfb ∗ Φ .rfb) :=
  bigSep_univ_eq_bigSepL [GK.bar, GK.sfa, GK.rfa, GK.sfb, GK.rfb] (by decide) (by decide) Φ
theorem bigSep_HK (Φ : HK → sProp 𝕄) : bigSep Finset.univ Φ = iprop(Φ .sxa ∗ Φ .rxa ∗ Φ .saa ∗ Φ .raa ∗ Φ .sxb ∗ Φ .rxb ∗ Φ .sab ∗ Φ .rab) :=
  bigSep_univ_eq_bigSepL [HK.sxa, HK.rxa, HK.saa, HK.raa, HK.sxb, HK.rxb, HK.sab, HK.rab] (by decide) (by decide) Φ
theorem bigSep_CK (Φ : CK → sProp 𝕄) : bigSep Finset.univ Φ
    = iprop((Φ (.inl .bar) ∗ Φ (.inl .sfa) ∗ Φ (.inl .rfa) ∗ Φ (.inl .sfb) ∗ Φ (.inl .rfb)) ∗ bigSep Finset.univ fun x => Φ (.inr x)) := by
  rw [BI.bigSep_univ_sum, bigSep_GK]; rfl
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_2 (Φ : Fin 2 → sProp 𝕄) : bigSep Finset.univ Φ = iprop(Φ 0 ∗ Φ 1) :=
  bigSep_univ_eq_bigSepL [0, 1] (by decide) (by decide) Φ

/-- The two local semaphores at zero. -/
def Slds (c : Dev nD) : sProp 𝕄 := iprop(semVal ((c : Thread nD τ), SemLoc.dma (sldS 0)) 0 ∗ semVal ((c : Thread nD τ), SemLoc.dma (sldS 1)) 0)

theorem Gh_end (c : Dev nD) : (Gh c 8 : sProp 𝕄) = bigSep Finset.univ fun x : Fin 7 × HK => semVal (cell c (.inr x)) 0 := by
  rw [BI.bigSep_univ_prod]
  unfold Gh
  refine bigSep_congr fun k _ => ?_
  rw [if_neg (by omega), bigSep_HK]
  rfl

theorem ownSems0_eq (c : Dev nD) : (Pipeline.ownSems0 (Ix := Unit) (Name := ℕ) (U := UU) (Lvl := ℕ) (Val := Elt F) (τ := τ) osem c : sProp 𝕄)
    = iprop(((semVal (cell c (.inl .sfa)) 0 ∗ semVal (cell c (.inl .rfa)) 0 ∗ semVal (cell c (.inl .sfb)) 0 ∗ semVal (cell c (.inl .rfb)) 0) ∗ Gh c 8) ∗ Slds c) := by
  unfold Pipeline.ownSems0
  rw [BI.bigSep_univ_sum, BI.bigSep_univ_sum, bigSep_4, bigSep_2, Gh_end]
  rfl

theorem unscopedSems0_eq (c : Dev nD) : (unscopedSems0 c : sProp 𝕄) = semVal (cell c (.inl .bar)) 0 := by
  unfold unscopedSems0; rw [bigSep_eq_bigSepL_of_eq [SemLoc.reg barS] (by decide +kernel) (by decide)]; rfl

theorem sems_cells (c : Dev nD) : iprop(Gh c 8 ∗ GD c) ⊢ (bigSep Finset.univ fun k : CK => semVal (cell c k) 0 : sProp 𝕄) := by
  rw [bigSep_CK, Gh_end]
  unfold GD
  iintro ⟨H, HG⟩
  isplitl [HG]; · iexact HG
  iexact H

theorem sems_in (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (cell c k) 0) ∗ Slds c : sProp 𝕄) := by
  rw [ownSems0_eq, unscopedSems0_eq]
  iintro ⟨⟨⟨⟨H1, H2, H3, H4⟩, HG⟩, HS⟩, HB⟩
  isplitr [HS]
  · iapply (sems_cells c)
    unfold GD
    isplitl [HG]; · iexact HG
    isplitl [HB]; · iexact HB
    isplitl [H1]; · iexact H1
    isplitl [H2]; · iexact H2
    isplitl [H3]; · iexact H3
    iexact H4
  iexact HS

theorem sems_out (c : Dev nD) : iprop(Gh c 8 ∗ GD c ∗ Slds c)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq]
  unfold GD
  iintro ⟨HG, ⟨HB, H1, H2, H3, H4⟩, HS⟩
  isplitl [HB]; · iexact HB
  isplitr [HS]
  · isplitr [HG]
    · isplitl [H1]; · iexact H1
      isplitl [H2]; · iexact H2
      isplitl [H3]; · iexact H3
      iexact H4
    iexact HG
  iexact HS

/-! ## The tickets -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]

def ringCells : Finset (GSem nD τ sig) := Finset.univ.map ⟨kcell, kcell_injective⟩

/-- A cell's tickets as minted: one each, a barrier cell a second one. -/
def tokOf : (Dev nD × CK) ⊕ Dev nD → GSem nD τ sig × ℕ × Bool
  | .inl x => (kcell x, 0, false)
  | .inr c => (cell c (.inl .bar), 0, true)

theorem tokOf_injective : Function.Injective tokOf := by
  rintro (x | c) (x' | c') h
  · rw [kcell_injective (congrArg Prod.fst h)]
  · exact absurd (congrArg (fun z : GSem nD τ sig × ℕ × Bool => z.2.2) h) Bool.false_ne_true
  · exact absurd (congrArg (fun z : GSem nD τ sig × ℕ × Bool => z.2.2) h).symm Bool.false_ne_true
  · have := kcell_injective (a₁ := (c, .inl .bar)) (a₂ := (c', .inl .bar)) (congrArg Prod.fst h)
    exact congrArg Sum.inr (Prod.ext_iff.mp this).1

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, One.one))

/-- Whom device `c` pays at cell `k`. -/
def dstE : CK → (Dev nD ≃ Dev nD)
  | .inl .bar => ring.symm
  | .inl .rfa => ring
  | .inl .rfb => ring.symm
  | .inr (_, .rxa) => ring
  | .inr (_, .raa) => ring
  | .inr (_, .rxb) => ring.symm
  | .inr (_, .rab) => ring.symm
  | _ => Equiv.refl _

def dealE : Dev nD × CK ≃ Dev nD × CK where
  toFun x := (dstE x.2 x.1, x.2)
  invFun x := ((dstE x.2).symm x.1, x.2)
  left_inv x := by simp
  right_inv x := by simp

def G (c : Dev nD) : sProp 𝕄 :=
  iprop((bigSep Finset.univ fun k : CK => roundState ER (Rd m) (cell c k) 0)
    ∗ (bigSep Finset.univ fun k : CK => atPos ER (cell c k) 0 ∅ 0) ∗ (bigSep Finset.univ fun k : CK => reached ER (cell c k) 0)
    ∗ (bigSep Finset.univ fun k : CK => dutyTok ER (cell c k) 0 false) ∗ dutyTok ER (cell c (.inl .bar)) 0 true)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, BI.bigSep_univ_prod]; rfl
  have hT : bigSep ringToks (fun x => (dutyTok ER x.1 x.2.1 x.2.2 : sProp 𝕄))
      = iprop((bigSep Finset.univ fun c : Dev nD => bigSep Finset.univ fun k : CK => dutyTok ER (cell c k) 0 false)
        ∗ bigSep Finset.univ fun c : Dev nD => dutyTok ER (cell c (.inl .bar)) 0 true) := by
    unfold ringToks; rw [bigSep_map, BI.bigSep_univ_sum, BI.bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  icases Htok' with ⟨Ht1, Ht2⟩
  unfold G; simp only [bigSep_sep']
  isplitl [Hst']; · iexact Hst'
  isplitl [Hat']; · iexact Hat'
  isplitl [Hr']; · iexact Hr'
  isplitl [Ht1]; · iexact Ht1
  iexact Ht2

/-- What stays with device `c`: its places, the tickets of what it pays, its local semaphores. -/
def linear (c : Dev nD) : sProp 𝕄 :=
  iprop((bigSep Finset.univ fun k : CK => atPos ER (cell c k) 0 ∅ 0)
    ∗ (bigSep Finset.univ fun k : CK => dutyTok ER (cell (dstE k c) k) 0 false) ∗ dutyTok ER (cell (nxt c) (.inl .bar)) 0 true ∗ Slds c)

def G' (c : Dev nD) : sProp 𝕄 := iprop(∃ K, records m K ∗ linear c)

theorem toks_around : (bigSep Finset.univ fun c : Dev nD => bigSep Finset.univ fun k : CK => (dutyTok ER (cell c k) 0 false : sProp 𝕄))
    = bigSep Finset.univ fun c : Dev nD => bigSep Finset.univ fun k : CK => (dutyTok ER (cell (dstE k c) k) 0 false : sProp 𝕄) := by
  have h1 := BI.bigSep_univ_prod (fun x : Dev nD × CK => (dutyTok ER (cell x.1 x.2) 0 false : sProp 𝕄))
  have h2 := BI.bigSep_univ_prod (fun x : Dev nD × CK => (dutyTok ER (cell (dstE x.2 x.1) x.2) 0 false : sProp 𝕄))
  rw [← h1, ← h2, BI.bigSep_univ_equiv dealE]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => atPos ER (cell c k) 0 ∅ 0) ∗ (bigSep Finset.univ fun k : CK => reached ER (cell c k) 0)
          ∗ (bigSep Finset.univ fun k : CK => dutyTok ER (cell c k) 0 false) ∗ dutyTok ER (cell c (.inl .bar)) 0 true ∗ Slds c) := by
  unfold G
  iintro ⟨Hos, Hus, Hst, Hat, Hre, Htok, Htt⟩
  ihave Hv := (sems_in (F := F) c) $$ [Hos Hus]
  · isplitl [Hos]; · iexact Hos
    iexact Hus
  icases Hv with ⟨Hv, Hsl⟩
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hre]; · iexact Hre
  isplitl [Htok]; · iexact Htok
  isplitl [Htt]; · iexact Htt
  iexact Hsl

theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (cell c k)))
          ∗ (bigSep Finset.univ fun k : CK => atPos ER (cell c k) 0 ∅ 0) ∗ (bigSep Finset.univ fun k : CK => reached ER (cell c k) 0)
          ∗ (bigSep Finset.univ fun k : CK => dutyTok ER (cell c k) 0 false) ∗ dutyTok ER (cell c (.inl .bar)) 0 true ∗ Slds c) : sProp 𝕄)
      ⊢ bigSep Finset.univ (G' m) := by
  have e1 := BI.bigSep_univ_prod (fun ck : Dev nD × CK => (iprop(∃ κ : ℕ, cellInv ER (Rd m) κ (kcell ck)) : sProp 𝕄))
  have e2 := BI.bigSep_univ_prod (fun ck : Dev nD × CK => (reached ER (kcell ck) 0 : sProp 𝕄))
  rw [bigSep_sep', bigSep_sep', bigSep_sep', bigSep_sep', bigSep_sep', toks_around,
    BI.bigSep_univ_equiv ring (fun c : Dev nD => (dutyTok ER (cell c (.inl .bar)) 0 true : sProp 𝕄))]
  iintro ⟨HI, Hat, HR, Htok, Htt, Hsl⟩
  ihave HI := (Entails.of_eq e1.symm) $$ HI
  ihave HR := (Entails.of_eq e2.symm) $$ HR
  icases HR with #HR
  ihave HK := (BI.bigSep_exists_pi Finset.univ (fun (ck : Dev nD × CK) (κ : ℕ) => (cellInv ER (Rd m) κ (kcell ck) : sProp 𝕄))) $$ HI
  icases HK with ⟨%K, #HI⟩
  iapply (with_persistent (R := records m K) (Φ := fun c : Dev nD => linear c) fun c _ => show iprop(records m K ∗ linear c) ⊢ G' m c from by
    unfold G'
    iintro H
    iexists K
    iexact H)
  isplitr
  · unfold records
    isplitr; · iexact HI
    iexact HR
  unfold linear
  simp only [bigSep_sep']
  isplitl [Hat]; · iexact Hat
  isplitl [Htok]; · iexact Htok
  isplitl [Htt]; · iexact Htt
  iexact Hsl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- How many units device `c`'s cell `k` is credited with at launch, in payments. -/
def credN : CK → ℕ
  | .inl .bar => 2
  | .inl .rfa => 1
  | .inl .rfb => 1
  | .inr (_, .rxa) => 1
  | .inr (_, .raa) => 1
  | .inr (_, .rxb) => 1
  | .inr (_, .rab) => 1
  | _ => 0

theorem Osum_cell (l : Debts) (c : Dev nD) (k : CK) : Osum l (cell c k) () = l.countP (fun p => decide (p = (c, k))) * amt k := by
  induction l with
  | nil => rw [List.countP_nil, Nat.zero_mul]; rfl
  | cons p l ih =>
    unfold Osum
    rw [Pi.add_apply, Finsupp.add_apply, ih, tallyAt_apply, List.countP_cons]
    by_cases h : p = (c, k)
    · subst h
      rw [if_pos ⟨rfl, rfl⟩, if_pos (decide_eq_true rfl), Nat.add_mul, Nat.one_mul]
    · have h1 : ¬ (cell c k = cell p.1 p.2 ∧ () = ()) := fun hh => h (kcell_injective (a₁ := p) (a₂ := (c, k)) hh.1.symm)
      rw [if_neg h1, if_neg (fun hh => h (of_decide_eq_true hh)), Nat.add_zero, Nat.add_zero]

set_option maxRecDepth 20000 in
theorem count_all : ∀ (c : Dev nD) (k : CK), (∑ d : Dev nD, (debts₀ d).countP (fun p => decide (p = (c, k)))) = credN k := by decide +kernel

abbrev O₀ (c : Dev nD) : CellTallies nD τ sig Unit := Osum (debts₀ c)

theorem launch_cell (c : Dev nD) (k : CK) :
    tallyOn (cell c k) (launchCredit (Pipeline.owing O₀) 0 (cell c k)) = (tallyAt (cell c k) () (credN k * amt k) : CellTallies nD τ sig Unit) := by
  unfold tallyAt; refine congrArg _ (Finsupp.ext fun u => ?_); cases u
  rw [Pipeline.launchCredit_owing, Finsupp.single_eq_same, Finset.sum_congr rfl fun d _ => Osum_cell (debts₀ d) c k, ← Finset.sum_mul, count_all]

theorem creds (c : Dev nD) :
    (Pipeline.launchCred O₀ c : sProp 𝕄) ⊢ bigSep Finset.univ fun k : CK => cred (tallyAt (cell c k) () (credN k * amt k)) := by
  unfold Pipeline.launchCred
  refine (bigSep_subset (t := Finset.univ.map ⟨csem, csem_inj⟩) (Finset.subset_univ _)).trans ?_
  rw [bigSep_map]
  exact bigSep_mono fun k _ => Entails.of_eq (congrArg cred (launch_cell c k))

/-! ## What a device starts from -/

theorem cred_one {c : Dev nD} {k : CK} (h : credN k = 1) : (cred (tallyAt (cell c k) () (credN k * amt k)) : sProp 𝕄) ⊢ cred (tallyAt (cell c k) () (amt k)) := by
  rw [h, Nat.one_mul]

theorem deal_hop (c : Dev nD) (k : Fin 7) : iprop((atPos ER (cell c (.inr (k, .sxa))) 0 ∅ 0 ∗ atPos ER (cell c (.inr (k, .rxa))) 0 ∅ 0 ∗ atPos ER (cell c (.inr (k, .saa))) 0 ∅ 0 ∗ atPos ER (cell c (.inr (k, .raa))) 0 ∅ 0 ∗ atPos ER (cell c (.inr (k, .sxb))) 0 ∅ 0 ∗ atPos ER (cell c (.inr (k, .rxb))) 0 ∅ 0 ∗ atPos ER (cell c (.inr (k, .sab))) 0 ∅ 0 ∗ atPos ER (cell c (.inr (k, .rab))) 0 ∅ 0)
      ∗ (dutyTok ER (cell c (.inr (k, .sxa))) 0 false ∗ dutyTok ER (cell (nxt c) (.inr (k, .rxa))) 0 false ∗ dutyTok ER (cell c (.inr (k, .saa))) 0 false ∗ dutyTok ER (cell (nxt c) (.inr (k, .raa))) 0 false ∗ dutyTok ER (cell c (.inr (k, .sxb))) 0 false ∗ dutyTok ER (cell (prv c) (.inr (k, .rxb))) 0 false ∗ dutyTok ER (cell c (.inr (k, .sab))) 0 false ∗ dutyTok ER (cell (prv c) (.inr (k, .rab))) 0 false)
      ∗ (cred (tallyAt (cell c (.inr (k, .sxa))) () (credN (.inr (k, .sxa)) * amt (.inr (k, .sxa)))) ∗ cred (tallyAt (cell c (.inr (k, .rxa))) () (credN (.inr (k, .rxa)) * amt (.inr (k, .rxa)))) ∗ cred (tallyAt (cell c (.inr (k, .saa))) () (credN (.inr (k, .saa)) * amt (.inr (k, .saa)))) ∗ cred (tallyAt (cell c (.inr (k, .raa))) () (credN (.inr (k, .raa)) * amt (.inr (k, .raa)))) ∗ cred (tallyAt (cell c (.inr (k, .sxb))) () (credN (.inr (k, .sxb)) * amt (.inr (k, .sxb)))) ∗ cred (tallyAt (cell c (.inr (k, .rxb))) () (credN (.inr (k, .rxb)) * amt (.inr (k, .rxb)))) ∗ cred (tallyAt (cell c (.inr (k, .sab))) () (credN (.inr (k, .sab)) * amt (.inr (k, .sab)))) ∗ cred (tallyAt (cell c (.inr (k, .rab))) () (credN (.inr (k, .rab)) * amt (.inr (k, .rab))))))
    ⊢ (HopG c k : sProp 𝕄) := by
  unfold HopG
  iintro ⟨⟨P1, P2, P3, P4, P5, P6, P7, P8⟩, ⟨T1, T2, T3, T4, T5, T6, T7, T8⟩, ⟨-, C2, -, C4, -, C6, -, C8⟩⟩
  ihave C2 := (cred_one (c := c) (k := .inr (k, .rxa)) rfl) $$ C2
  ihave C4 := (cred_one (c := c) (k := .inr (k, .raa)) rfl) $$ C4
  ihave C6 := (cred_one (c := c) (k := .inr (k, .rxb)) rfl) $$ C6
  ihave C8 := (cred_one (c := c) (k := .inr (k, .rab)) rfl) $$ C8
  isplitl [P1 T1]
  · isplitl [P1]; · iexact P1
    iexact T1
  isplitl [P2 C2 T2]
  · isplitl [P2]; · iexact P2
    isplitl [C2]; · iexact C2
    iexact T2
  isplitl [P3 T3]
  · isplitl [P3]; · iexact P3
    iexact T3
  isplitl [P4 C4 T4]
  · isplitl [P4]; · iexact P4
    isplitl [C4]; · iexact C4
    iexact T4
  isplitl [P5 T5]
  · isplitl [P5]; · iexact P5
    iexact T5
  isplitl [P6 C6 T6]
  · isplitl [P6]; · iexact P6
    isplitl [C6]; · iexact C6
    iexact T6
  isplitl [P7 T7]
  · isplitl [P7]; · iexact P7
    iexact T7
  isplitl [P8]; · iexact P8
  isplitl [C8]; · iexact C8
  iexact T8

theorem deal (c : Dev nD) : iprop(linear c ∗ bigSep Finset.univ fun k : CK => cred (tallyAt (cell c k) () (credN k * amt k)))
    ⊢ (iprop(BarG c ∗ Gh c 0 ∗ LastA c ∗ LastB c ∗ Slds c) : sProp 𝕄) := by
  have hh : iprop((bigSep Finset.univ fun x : Fin 7 × HK => atPos ER (cell c (.inr x)) 0 ∅ 0)
      ∗ (bigSep Finset.univ fun x : Fin 7 × HK => dutyTok ER (cell (dstE (.inr x) c) (.inr x)) 0 false)
      ∗ (bigSep Finset.univ fun x : Fin 7 × HK => cred (tallyAt (cell c (.inr x)) () (credN (.inr x) * amt (.inr x))))) ⊢ (Gh c 0 : sProp 𝕄) := by
    rw [BI.bigSep_univ_prod, BI.bigSep_univ_prod, BI.bigSep_univ_prod, ← bigSep_sep', ← bigSep_sep']
    unfold Gh
    refine bigSep_mono fun k _ => ?_
    rw [if_pos (Nat.zero_le _), bigSep_HK, bigSep_HK, bigSep_HK]
    exact deal_hop c k
  unfold linear
  rw [bigSep_CK, bigSep_CK, bigSep_CK]
  unfold BarG LastA LastB
  iintro ⟨⟨⟨⟨P0, P1, P2, P3, P4⟩, PH⟩, ⟨⟨T0, T1, T2, T3, T4⟩, TH⟩, TT, HS⟩, ⟨⟨C0, -, C2, -, C4⟩, CH⟩⟩
  ihave C2 := (cred_one (c := c) (k := .inl .rfa) rfl) $$ C2
  ihave C4 := (cred_one (c := c) (k := .inl .rfb) rfl) $$ C4
  ihave C0 := (show (cred (tallyAt (cell c (.inl .bar)) () (credN (.inl .bar) * amt (.inl .bar))) : sProp 𝕄) ⊢ cred (tallyAt (cell c (.inl .bar)) () 2) from .rfl) $$ C0
  isplitl [P0 C0 T0 TT]
  · isplitl [P0]; · iexact P0
    isplitl [C0]; · iexact C0
    isplitl [T0]; · iexact T0
    iexact TT
  isplitl [PH TH CH]
  · iapply hh
    isplitl [PH]; · iexact PH
    isplitl [TH]; · iexact TH
    iexact CH
  isplitl [P1 T1 P2 C2 T2]
  · isplitl [P1 T1]
    · isplitl [P1]; · iexact P1
      iexact T1
    isplitl [P2]; · iexact P2
    isplitl [C2]; · iexact C2
    iexact T2
  isplitl [P3 T3 P4 C4 T4]
  · isplitl [P3 T3]
    · isplitl [P3]; · iexact P3
      iexact T3
    isplitl [P4]; · iexact P4
    isplitl [C4]; · iexact C4
    iexact T4
  iexact HS

end Cert.Moe

end
-- ==== Proof.Launch.lean ====
/-
# The launch, and the run of the whole program
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from, beside its scratch buffers. -/
def start (c : Dev nD) : sProp 𝕄 :=
  iprop((∃ K, records m K) ∗ levAts L lv ∗ (BarG c ∗ Gh c 0 ∗ LastA c ∗ LastB c ∗ Slds c) ∗ XB m c ∗ (((c : Thread nD τ).loc main_arg3) ↦{fullShare} wB m c))

def Φ₀ (c : Dev nD) : sProp 𝕄 :=
  iprop((∃ K, records m K) ∗ levAts L lv ∗ BarG c ∗ XB m c ∗ Free m c 0 ∗ Free m c 1 ∗ Slots c ∗ Gh c 0 ∗ LastA c ∗ LastB c)
def Φ₁ (c : Dev nD) : sProp 𝕄 := iprop(XB m c ∗ Free m c 0 ∗ Free m c 1 ∗ Slots c ∗ Gh c 8 ∗ GD c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rtV m c
    | ⟨1, _⟩ => ixV m c
    | ⟨2, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = Sl c (Memref.whole b) (fun v => v = X) := by
  rw [Sl_whole]
  unfold owns; simp only [Memref.view_whole, View.read_whole, View.set_whole]

theorem before_rt (c : Dev nD) (d) : (dats m ρ 0 c).before (0 : Fin 3) t0_0 d = rtV m c := by unfold Dat.before; rw [if_pos (fetch_0 t0_0)]; rfl
theorem before_ix (c : Dev nD) (d) : (dats m ρ 0 c).before (1 : Fin 3) t0_0 d = ixV m c := by unfold Dat.before; rw [if_pos (fetch_1 t0_0)]; rfl

def bodyPre (c : Dev nD) : sProp 𝕄 :=
  iprop(Φ₀ m c ∗ (dats m ρ 0 c).owesAt () t0_0.castSucc
    ∗ (∃ d, Sl c (Memref.whole cc0_stg0_0) (fun v => v = (dats m ρ 0 c).before (0 : Fin 3) t0_0 d))
    ∗ (∃ d, Sl c (Memref.whole cc0_stg1_0) (fun v => v = (dats m ρ 0 c).before (1 : Fin 3) t0_0 d))
    ∗ (∃ d, Sl c (Memref.whole cc0_stg2_0) (fun v => v = (dats m ρ 0 c).before (2 : Fin 3) t0_0 d)))

def bodyPost (c : Dev nD) : sProp 𝕄 :=
  iprop(Φ₁ m c ∗ (dats m ρ 0 c).owesAt () t0_0.succ
    ∗ Sl c (Memref.whole cc0_stg0_0) (fun v => v = rtV m c) ∗ Sl c (Memref.whole cc0_stg1_0) (fun v => v = ixV m c)
    ∗ Sl c (Memref.whole cc0_stg2_0) (fun v => v = outV m c))

theorem pre_of (c : Dev nD) : bodyPre m ρ c ⊢ iprop(∃ K, Pre m K c) := by
  unfold bodyPre Φ₀
  iintro ⟨⟨⟨%K, #HK⟩, #Hlev, HB, HX, HF0, HF1, HS, HG, HA, HL⟩, Ho, ⟨%d0, H0⟩, ⟨%d1, H1⟩, ⟨%d2, H2⟩⟩
  iexists K
  unfold Pre owesE Stg Dat.owesAt Pipeline.owesWithin
  rw [before_rt, before_ix, show (dats m ρ 0 c).owed t0_0.castSucc = Osum (debts₀ c) from rfl]
  icases Ho with ⟨%W, %hW, Ho⟩
  isplitr; · iexact HK
  isplitr; · iexact Hlev
  isplitl [HB]; · iexact HB
  isplitl [Ho]
  · iexists W; iexact Ho
  isplitl [H0 H1]
  · isplitl [H0]; · iexact H0
    iexact H1
  isplitl [HX]; · iexact HX
  isplitl [HF0]; · iexact HF0
  isplitl [HF1]; · iexact HF1
  isplitl [HS]; · iexact HS
  isplitl [H2]
  · iapply (Sl_any c outM); iexact H2
  isplitl [HG]; · iexact HG
  isplitl [HA]; · iexact HA
  iexact HL

theorem post_to (c : Dev nD) : Post m c ⊢ bodyPost m ρ c := by
  unfold Post bodyPost Φ₁ Stg owesE Dat.owesAt Pipeline.owesWithin
  rw [show (dats m ρ 0 c).owed t0_0.succ = Osum [] from rfl]
  iintro ⟨⟨%W, Ho⟩, ⟨H0, H1⟩, HX, HF0, HF1, HS, Hout, HG, HD⟩
  isplitr [Ho H0 H1 Hout]
  · isplitl [HX]; · iexact HX
    isplitl [HF0]; · iexact HF0
    isplitl [HF1]; · iexact HF1
    isplitl [HS]; · iexact HS
    isplitl [HG]; · iexact HG
    iexact HD
  isplitl [Ho]
  · iexists W
    isplitr; · ipureintro; exact fun _ _ => Or.inl trivial
    iexact Ho
  isplitl [H0]; · iexact H0
  isplitl [H1]; · iexact H1
  iexact Hout

theorem sound_body (c : Dev nD) : bodyPre m ρ c ⊢ wp frame (wpE (defs₀ (F := F)) 𝒱₀ (c : Thread nD τ) none) Set.univ (cc0_body xM (Memref.isWhole_whole _) rtM (Memref.isWhole_whole _) ixM (Memref.isWhole_whole _) wM (Memref.isWhole_whole _) outM (Memref.isWhole_whole _) xaM (Memref.isWhole_whole _) xbM (Memref.isWhole_whole _) aaM (Memref.isWhole_whole _) abM (Memref.isWhole_whole _) faM (Memref.isWhole_whole _) fbM (Memref.isWhole_whole _) taM (Memref.isWhole_whole _) tbM (Memref.isWhole_whole _) stM (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21) (fun _ => bodyPost m ρ c) := by
  iintro H
  ihave H := (pre_of m ρ c) $$ H
  icases H with ⟨%K, H⟩
  iapply (wp_wand frame (wpE (defs₀ (F := F)) 𝒱₀ (c : Thread nD τ) none) Set.univ) $$ [H]
  · iapply (body_run m K c); iexact H
  iintro %_u H
  iapply (post_to m ρ c); iexact H

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

theorem share_eq (c : Dev nD) (w : Fin cfg0.W) : (dats m ρ 0 c).share w = fullShare := by unfold Dat.share; split <;> rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start XB
  iintro ⟨⟨HX, HW⟩, Hlev, Hcr, -, ⟨%K, #HK, HG⟩⟩
  ihave Hc := (creds (F := F) c) $$ Hcr
  ihave HD := (deal (F := F) c) $$ [HG Hc]
  · isplitl [HG]; · iexact HG
    iexact Hc
  imodintro
  isplitl
  · isplitr; · iexists K; iexact HK
    isplitl [Hlev]; · iexact Hlev
    isplitl [HD]; · iexact HD
    isplitl [HX]; · iexact HX
    iexact HW
  · iempintro

theorem slots_of (c : Dev nD) : (Pipeline.scopedRest (Ix := Unit) (Name := ℕ) (U := UU) (Lvl := ℕ) (Val := Elt F) cfg0.spec c : sProp 𝕄)
    ⊢ iprop(Slots c ∗ Sl c (stS 0) anyv ∗ Sl c (stS 1) anyv) := by
  rw [scopedRest0_eq]
  unfold Slots
  iintro ⟨H0, H1, H2, H3, H4, H5, H6, H7, H8⟩
  ihave H0 := ((Sl_of_scratch c cc0_scratch0).trans (split_xa c)) $$ H0
  ihave H1 := ((Sl_of_scratch c cc0_scratch1).trans (split_xb c)) $$ H1
  ihave H2 := ((Sl_of_scratch c cc0_scratch2).trans (split_aa c)) $$ H2
  ihave H3 := ((Sl_of_scratch c cc0_scratch3).trans (split_ab c)) $$ H3
  ihave H4 := (Sl_of_scratch c cc0_scratch4) $$ H4
  ihave H5 := (Sl_of_scratch c cc0_scratch5) $$ H5
  ihave H6 := (Sl_of_scratch c cc0_scratch6) $$ H6
  ihave H7 := (Sl_of_scratch c cc0_scratch7) $$ H7
  ihave H8 := ((Sl_of_scratch c cc0_scratch8).trans (split_st c)) $$ H8
  isplitr [H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact H8

theorem slots_to (c : Dev nD) : iprop(Slots c ∗ Sl c (stS 0) anyv ∗ Sl c (stS 1) anyv)
    ⊢ (Pipeline.scopedRest (Ix := Unit) (Name := ℕ) (U := UU) (Lvl := ℕ) (Val := Elt F) cfg0.spec c : sProp 𝕄) := by
  rw [scopedRest0_eq]
  unfold Slots
  iintro ⟨⟨H0, H1, H2, H3, H4, H5, H6, H7⟩, H8⟩
  ihave H0 := ((join_xa c).trans (scratch_of_Sl c cc0_scratch0)) $$ H0
  ihave H1 := ((join_xb c).trans (scratch_of_Sl c cc0_scratch1)) $$ H1
  ihave H2 := ((join_aa c).trans (scratch_of_Sl c cc0_scratch2)) $$ H2
  ihave H3 := ((join_ab c).trans (scratch_of_Sl c cc0_scratch3)) $$ H3
  ihave H4 := (scratch_of_Sl c cc0_scratch4) $$ H4
  ihave H5 := (scratch_of_Sl c cc0_scratch5) $$ H5
  ihave H6 := (scratch_of_Sl c cc0_scratch6) $$ H6
  ihave H7 := (scratch_of_Sl c cc0_scratch7) $$ H7
  ihave H8 := ((join_st c).trans (scratch_of_Sl c cc0_scratch8)) $$ H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold start Φ₀ Free Slds
  iintro ⟨⟨HK, Hlev, ⟨HB, HG, HA, HL, HS0, HS1⟩, HX, HW⟩, -, HR⟩
  ihave HR := (slots_of c) $$ HR
  icases HR with ⟨HS, Hst0, Hst1⟩
  ihave HW := (shr_split (F := F)).1 $$ HW
  icases HW with ⟨HW0, HW1⟩
  isplitl [HK]; · iexact HK
  isplitl [Hlev]; · iexact Hlev
  isplitl [HB]; · iexact HB
  isplitl [HX]; · iexact HX
  isplitl [Hst0 HW0 HS0]
  · isplitl [Hst0]; · iexact Hst0
    isplitl [HW0]; · iexact HW0
    iexact HS0
  isplitl [Hst1 HW1 HS1]
  · isplitl [Hst1]; · iexact Hst1
    isplitl [HW1]; · iexact HW1
    iexact HS1
  isplitl [HS]; · iexact HS
  isplitl [HG]; · iexact HG
  isplitl [HA]; · iexact HA
  iexact HL

/-- What stays when the region is left: the barrier's counter, the tokens and the weights. -/
def Y (c : Dev nD) : sProp 𝕄 := iprop(unscopedSems0 c ∗ XB m c ∗ (((c : Thread nD τ).loc main_arg3) ↦{fullShare} wB m c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl]
  unfold Φ₁ Free Y
  iintro ⟨HX, ⟨Hst0, HW0, HS0⟩, ⟨Hst1, HW1, HS1⟩, HS, HG, HD⟩
  ihave HV := (sems_out (F := F) c) $$ [HG HD HS0 HS1]
  · isplitl [HG]; · iexact HG
    isplitl [HD]; · iexact HD
    unfold Slds
    isplitl [HS0]; · iexact HS0
    iexact HS1
  icases HV with ⟨HU, HO⟩
  isplitl [HU HX HW0 HW1]
  · isplitl [HU]; · iexact HU
    isplitl [HX]; · iexact HX
    iapply (shr_split (F := F)).2
    isplitl [HW0]; · iexact HW0
    iexact HW1
  isplitl [HO]; · iexact HO
  iapply (slots_to c)
  isplitl [HS]; · iexact HS
  isplitl [Hst0]; · iexact Hst0
  iexact Hst1

theorem stage_lev : ∀ (w : Fin cfg0.W) (s : Fin (cfg0.win w).nbuf), levOf (kindOf (SemLoc.dma ((cfg0.win w).sem s))) ≤ 0 := by
  intro w s
  have h : ∀ (w : Fin cfg0.W) (s : Fin (cfg0.win w).nbuf) (k : CK), csem k ≠ SemLoc.dma ((cfg0.win w).sem s) := by decide +kernel
  rw [kindOf_none (h w s)]
  exact Nat.le_refl 0

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (debts₀ c) 0 (stage_lev w s) (fun p hp => by
        unfold debts₀ at hp
        rcases List.mem_cons.mp hp with rfl | hp
        · exact Nat.one_pos
        rcases List.mem_cons.mp hp with rfl | hp
        · exact Nat.one_pos
        exact lt_of_le_of_lt (Nat.zero_le _) (debtsFrom_lev c 0 p hp))
    · exact mayWait c _ [] 0 (stage_lev w s) (fun p hp => absurd hp List.not_mem_nil)

/-! ## The run -/

theorem own_ring (x : UB) : (BI.own (((Emb.inl : Emb UB (UB × Counters)).trans (embR : Emb (UB × Counters) (MT nD τ sig Unit (Elt F) ℕ UU ℕ))) x) : sProp 𝕄) ⊢ BI.own (ER x) := by
  unfold ER; exact Entails.of_eq rfl

/-- What the final memory is known to hold on device `c`. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0)
    ∧ r.2.mem ((c : Thread nD τ).loc main_arg3) = m ((c : Thread nD τ).loc main_arg3)

theorem read_end (c : Dev nD) (s' : Phys nD τ sig (Elt F)) : iprop(Y m c ∗ emp ∗ SI s')
    ⊢ (|={Set.univ}=> iprop(⌜s'.mem.mem ((c : Thread nD τ).loc main_arg0) = m ((c : Thread nD τ).loc main_arg0)
        ∧ s'.mem.mem ((c : Thread nD τ).loc main_arg3) = m ((c : Thread nD τ).loc main_arg3)
        ∧ ∀ sm : SemLoc sig, sm.isScoped .tc = false → s'.mem.sem ((c.tc : Thread nD τ), sm) = 0⌝ ∗ SI s') : sProp 𝕄) := by
  unfold Y XB
  iintro ⟨⟨Hu, HX, HW⟩, -, HSI⟩
  icombine HSI HX gives %hX
  icombine HSI HW gives %hW
  imod (Pipeline.unscopedSems0_read (X := unscopedSems0 c) (c := c) fupd_intro s') $$ [Hu HSI] with H
  · isplitl [Hu] <;> iassumption
  imodintro
  icases H with ⟨%hs, HSI⟩
  isplitr
  · ipureintro
    exact ⟨funext fun i => hX i (Finset.mem_univ i), funext fun i => hW i (Finset.mem_univ i), hs⟩
  iexact HSI

set_option maxRecDepth 8000 in
/-- Every weakly fair run of the eight devices' kernels ends, from any memory with zero counters, with the result at the computed
    contents, the inputs as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (own_ring _) $$ HX
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => s.mem ((c : Thread nD τ).loc main_arg0) = m ((c : Thread nD τ).loc main_arg0)
        ∧ s.mem ((c : Thread nD τ).loc main_arg3) = m ((c : Thread nD τ).loc main_arg3)
        ∧ ∀ sm : SemLoc sig, sm.isScoped .tc = false → s.sem ((c.tc : Thread nD τ), sm) = 0)
    (hY := read_end m)
    (hQ := fun _ h hs => ⟨fun c => ⟨(h c).1, (h c).2.2.1, (h c).2.2.2.1⟩, sem_eq_zero hs fun c => (h c).2.2.2.2⟩)

end Cert.Moe

end
-- ==== Proof.Frames.lean ====
/-
# The inputs end as they were
-/
module

public import proofs.«01_k».proof.Proof.Launch

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The inputs are where they were. -/
def Kept : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem kept_of {r : PUnit × MemSt nD τ sig (Elt F)} (h : QC m ρ r) : Kept m r := fun c =>
  ⟨(h c).2.1, ((h c).1 0).trans ((dats m ρ 0 c).arrAt_in 0 rfl _), ((h c).1 1).trans ((dats m ρ 0 c).arrAt_in 1 rfl _), (h c).2.2⟩

theorem run_kept : θ_run defs (onTc (τ := τ) (main (F := F))) ⟨m, fun _ => 0, ρ⟩ (fun r => Kept m r ∧ r.2.sem = fun _ => 0) :=
  (θ_run defs _ _).mono (fun _ h => ⟨kept_of m ρ h.1, h.2⟩) (run_main m ρ)

end Cert.Moe

end
-- ==== Proof.Same.lean ====
/-
# The two prints of the kernel are one program

The idealization rewrote nothing, so at machine words the two printed modules are the same program.
-/
module

public import proofs.«01_k».proof.Defs
public import proofs.«01_k».proof.Proof.Gen.Kernel
public import proofs.«01_k».proof.Proof.Gen.KernelIdeal

@[expose] public section

namespace Cert.Moe

open Idealize.ShloMosaic

set_option maxRecDepth 10000

theorem body_same : @Cert.Kernel.cc0_body Bits _ Cert.Kernel.Gen.facts = @Cert.KernelIdeal.cc0_body Bits _ Cert.KernelIdeal.Gen.facts := rfl

theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) =>
    dsimp only
    rw [body_same]

theorem defs_same : @Cert.Kernel.defs Bits _ Cert.Kernel.Gen.facts = @Cert.KernelIdeal.defs Bits _ Cert.KernelIdeal.Gen.facts :=
  congrArg (Idealize.ShloMosaic.Pipeline.defs (Cert.KernelIdeal.pcfgs (F := Bits))) defs₀_same

end Cert.Moe
-- ==== Proof.Formula.lean ====
/-
# The layer's formula for one token

A token's vector `x`, the router `R`, the token's two expert numbers `i` and `j`, and the experts' weights `W`, over the
extended reals: the softmax of the scores, the two chosen probabilities divided by their sum, and the sum over the experts.
-/
module

public import Idealize.ShloMosaic.Lib.Pointwise

@[expose] public section

noncomputable section

namespace Cert.Moe

open Idealize.ShloMosaic
open Idealize.ShloMosaic.TcCoe

variable (x : Fin 1024 → EReal) (R : Fin 1024 → Fin 64 → EReal) (i j : BitVec 32)

/-- A token's score at expert `e`. -/
def score (e : Fin 64) : EReal := ∑ k : Fin 1024, x k * R k e

/-- The exponential of the score, less the greatest score. -/
def raised (e : Fin 64) : EReal :=
  Ideal.exp (score x R e - (Finset.univ : Finset (Fin 64)).fold max (Ideal.ofBits .f32 0xFF800000#32) (fun l => score x R l))

/-- The softmax. -/
def prob (e : Fin 64) : EReal := Ideal.div (raised x R e) (∑ l : Fin 64, raised x R l)

/-- The probability at the expert numbered `i`; zero if there is no such expert. -/
def pick : EReal := ∑ e : Fin 64, if i = BitVec.ofNat 32 e.val then prob x R e else 0

/-- The weight of the expert numbered `e`. -/
def weight (e : BitVec 32) : EReal :=
  (if i = e then Ideal.div (pick x R i) (pick x R i + pick x R j) else 0) + (if j = e then Ideal.div (pick x R j) (pick x R i + pick x R j) else 0)

/-- Column `d` of what one expert with weights `w` makes of the token. -/
def made (w : Fin 1024 → Fin 1024 → EReal) (d : Fin 1024) : EReal := ∑ k : Fin 1024, x k * w k d

/-- The layer's result at a token and a column: over all the experts, the expert's weight times what it makes of the token. -/
def layer (x : Fin 1024 → EReal) (R : Fin 1024 → Fin 64 → EReal) (i j : BitVec 32) (W : Fin 64 → Fin 1024 → Fin 1024 → EReal) (d : Fin 1024) : EReal :=
  ∑ e : Fin 64, weight x R i j (BitVec.ofNat 32 e.val) * made x (W e) d

end Cert.Moe

end
-- ==== Proof.Pays.lean ====
/-
# The kernel's printed expressions, read at one token

Each stored value of the kernel at the extended reals, at a row and a column, in terms of the layer's formula
(`Proof/Formula.lean`). Every cast between float formats is the identity there, and an expert number packed beside the
tokens as a float is unpacked to the same number.
-/
module

public import proofs.«01_k».proof.Proof.Formula
public import proofs.«01_k».proof.Proof.Contents
public import Idealize.ShloMosaic.Lib.Pointwise

@[expose] public section

noncomputable section

namespace Cert.Moe

open Cert.KernelIdeal Cert.KernelIdeal.Gen

open Idealize.ShloMosaic
open Idealize.ShloMosaic.TcCoe

/-- A choice by equality of two numbers. -/
theorem choose_eq (a b : BitVec 32) (p q : EReal) : Scalar.select (IntOp.cmpi .eq a b) p q = if a = b then p else q := by
  unfold Scalar.select IntOp.cmpi
  by_cases h : a = b
  · subst h; simp
  · have h2 : (a == b) = false := by simp [h]
    simp [h, h2]

/-- A 32-bit number written as a float and read back. -/
theorem fptosi_toInt (b : BitVec 32) : Ideal.fptosi 32 (((b.toInt : ℤ) : ℝ) : EReal) = b := by
  have h1 := b.toInt_lt
  have h2 := b.le_toInt
  unfold Ideal.fptosi
  rw [Ideal.toIntClamped_coe]
  have h3 : (if (0 : ℝ) ≤ ((b.toInt : ℤ) : ℝ) then ⌊((b.toInt : ℤ) : ℝ)⌋ else ⌈((b.toInt : ℤ) : ℝ)⌉) = b.toInt := by
    split <;> simp
  rw [h3, min_eq_right (by push_cast; omega), max_eq_right (by push_cast; omega), BitVec.ofInt_toInt]

variable (r : FVec Ideal S1024x64 .bf16) (tok : Vec Ideal S1x1024x1024 .bf16) (u v : Vec Ideal S1x1024x1 .bf16)

/-- The staged router, rounded, is the router. -/
theorem pay28_at (x : Vec Ideal S1024x64 .f32) (k : Fin 1024) (e : Fin 64) : k0_pay28 x (ix2 k e) = x (ix2 k e) := by
  pointwise [k0_pay28]

/-! ## The half that goes up the ring -/

theorem pay10_at (n k : Fin 1024) : k0_pay10 tok (ix2 n k) = tok (ix3 0 n k) := by pointwise [k0_pay10]

theorem pay11_at (n : Fin 1024) : k0_pay11 u (ix2 n 0) = Ideal.fptosi 32 (u (ix3 0 n 0)) := by pointwise [k0_pay11]; rfl

theorem pay12_at (n : Fin 1024) : k0_pay12 u (ix2 n 0) = Ideal.fptosi 32 (u (ix3 0 n 0)) := by pointwise [k0_pay12]; rfl

theorem pay13_at (n : Fin 1024) (e : Fin 64) : k0_pay13 r tok (ix2 n e) = prob (fun k => tok (ix3 0 n k)) (fun k e => r (ix2 k e)) e := by
  pointwise [k0_pay13, k0_pay10]
  rfl

theorem pay14_at (n : Fin 1024) :
    k0_pay14 r tok u (ix2 n 0) = pick (fun k => tok (ix3 0 n k)) (fun k e => r (ix2 k e)) (Ideal.fptosi 32 (u (ix3 0 n 0))) := by
  pointwise [k0_pay14, k0_pay11]
  unfold pick
  simp only [pay13_at, choose_eq]
  rfl

theorem pay16_at (n : Fin 1024) :
    k0_pay16 (k0_pay15 r tok u) (ix2 n 0) = pick (fun k => tok (ix3 0 n k)) (fun k e => r (ix2 k e)) (Ideal.fptosi 32 (u (ix3 0 n 0))) := by
  pointwise [k0_pay16, k0_pay15, k0_pay12]
  unfold pick
  simp only [pay13_at, choose_eq]
  rfl

theorem pay17_at (p : FVec Ideal S1024x1 .f32) (q : FVec Ideal S1024x64 .f32) (n : Fin 1024) :
    k0_pay17 p q (ix2 n 0) = Ideal.div (p (ix2 n 0)) (p (ix2 n 0) + k0_pay16 q (ix2 n 0)) := by
  pointwise [k0_pay17]

theorem pay18_at (p : FVec Ideal S1024x1 .f32) (q : FVec Ideal S1024x64 .f32) (n : Fin 1024) :
    k0_pay18 p q (ix2 n 0) = Ideal.div (k0_pay16 q (ix2 n 0)) (p (ix2 n 0) + k0_pay16 q (ix2 n 0)) := by
  pointwise [k0_pay18]

/-- The number of device `a`'s expert `e`, as the kernel computes it. -/
def num (a : BitVec 32) (e : ℕ) : BitVec 32 := Scalar.addi (Scalar.muli a 8#32) (Scf.iv 0#32 1#32 e)

theorem pay7_at (a : BitVec 32) (i j : IVec S1024x1 32) (p q : FVec Ideal S1024x1 .f32) (e : Fin k0_t2_loop.trips) (n d : Fin 1024) :
    k0_pay7 a i j p q 0#32 1#32 e (ix2 n d)
      = (if i (ix2 n 0) = num a e.val then p (ix2 n 0) else 0) + (if j (ix2 n 0) = num a e.val then q (ix2 n 0) else 0) := by
  pointwise [k0_pay7]
  simp only [choose_eq]
  rfl

theorem pay36_at (y s w : FVec Ideal S1024x1024 .f32) (n d : Fin 1024) :
    k0_pay36 y s w (ix2 n d) = s (ix2 n d) + w (ix2 n d) * y (ix2 n d) := by
  pointwise [k0_pay36]

theorem pay5_at (x : FVec Ideal S1024x1024 .bf16) (w : Vec Ideal S1x1024x1024 .f32) (n d : Fin 1024) :
    k0_pay5 x w (ix2 n d) = made (fun k => x (ix2 n k)) (fun k d => w (ix3 0 k d)) d := by
  pointwise [k0_pay5, k0_pay4]
  rfl

theorem pay6_at (s : FVec Ideal S1024x1024 .bf16) (n d : Fin 1024) : (k0_pay6 (F := Ideal) s (ix2 n d) : EReal) = s (ix2 n d) := by pointwise [k0_pay6]

theorem pay34_at (n d : Fin 1024) : k0_pay34 (F := Ideal) k0_pay27 (ix2 n d) = 0 := by pointwise [k0_pay34, k0_pay27]

/-- One expert's step: the sum so far, plus the expert's weight times what it makes of the token. -/
theorem stepA_at (a : BitVec 32) (w : Vec Ideal S1x1024x1024 .f32) (s : FVec Ideal S1024x1024 .bf16) (e : Fin k0_t2_loop.trips) (n d : Fin 1024) :
    k0_pay36 (k0_pay5 (k0_pay10 tok) w) (k0_pay6 s)
        (k0_pay7 a (k0_pay11 u) (k0_pay12 v) (k0_pay17 (k0_pay14 r tok u) (k0_pay15 r tok v)) (k0_pay18 (k0_pay14 r tok u) (k0_pay15 r tok v)) 0#32 1#32 e) (ix2 n d)
      = s (ix2 n d) + weight (fun k => tok (ix3 0 n k)) (fun k e => r (ix2 k e)) (Ideal.fptosi 32 (u (ix3 0 n 0))) (Ideal.fptosi 32 (v (ix3 0 n 0))) (num a e.val)
          * made (fun k => tok (ix3 0 n k)) (fun k d => w (ix3 0 k d)) d := by
  simp only [pay36_at, pay5_at, pay6_at, pay7_at, pay10_at, pay11_at, pay12_at, pay17_at, pay18_at, pay14_at, pay16_at]
  rfl

/-! ## The half that goes down the ring -/

theorem pay19_at (n k : Fin 1024) : k0_pay19 tok (ix2 n k) = tok (ix3 0 n k) := by pointwise [k0_pay19]

theorem pay20_at (n : Fin 1024) : k0_pay20 u (ix2 n 0) = Ideal.fptosi 32 (u (ix3 0 n 0)) := by pointwise [k0_pay20]; rfl

theorem pay21_at (n : Fin 1024) : k0_pay21 u (ix2 n 0) = Ideal.fptosi 32 (u (ix3 0 n 0)) := by pointwise [k0_pay21]; rfl

theorem pay22_at (n : Fin 1024) (e : Fin 64) : k0_pay22 r tok (ix2 n e) = prob (fun k => tok (ix3 0 n k)) (fun k e => r (ix2 k e)) e := by
  pointwise [k0_pay22, k0_pay19]
  rfl

theorem pay23_at (n : Fin 1024) :
    k0_pay23 r tok u (ix2 n 0) = pick (fun k => tok (ix3 0 n k)) (fun k e => r (ix2 k e)) (Ideal.fptosi 32 (u (ix3 0 n 0))) := by
  pointwise [k0_pay23, k0_pay20]
  unfold pick
  simp only [pay22_at, choose_eq]
  rfl

theorem pay24_at (n : Fin 1024) :
    k0_pay24 r tok u (ix2 n 0) = pick (fun k => tok (ix3 0 n k)) (fun k e => r (ix2 k e)) (Ideal.fptosi 32 (u (ix3 0 n 0))) := by
  pointwise [k0_pay24, k0_pay21]
  unfold pick
  simp only [pay22_at, choose_eq]
  rfl

theorem pay25_at (n : Fin 1024) :
    k0_pay25 r tok u v (ix2 n 0) = Ideal.div (k0_pay23 r tok u (ix2 n 0)) (k0_pay23 r tok u (ix2 n 0) + k0_pay24 r tok v (ix2 n 0)) := by
  pointwise [k0_pay25]

theorem pay26_at (n : Fin 1024) :
    k0_pay26 r tok u v (ix2 n 0) = Ideal.div (k0_pay24 r tok v (ix2 n 0)) (k0_pay23 r tok u (ix2 n 0) + k0_pay24 r tok v (ix2 n 0)) := by
  pointwise [k0_pay26]

theorem pay3_at (a : BitVec 32) (i j : IVec S1024x1 32) (p q : FVec Ideal S1024x1 .f32) (e : Fin k0_t2_loop.trips) (n : Fin 1024) :
    k0_pay3 a i j p q 0#32 1#32 e (ix2 n 0)
      = (if i (ix2 n 0) = num a e.val then p (ix2 n 0) else 0) + (if j (ix2 n 0) = num a e.val then q (ix2 n 0) else 0) := by
  pointwise [k0_pay3]
  simp only [choose_eq]
  rfl

theorem pay4_at (w : Vec Ideal S1x1024x1024 .f32) (k d : Fin 1024) : k0_pay4 w (ix2 k d) = w (ix3 0 k d) := by pointwise [k0_pay4]

theorem pay37_at (x : FVec Ideal S1024x1024 .bf16) (g : FVec Ideal S1024x1 .f32) (w : FVec Ideal S1024x1024 .bf16) (s : FVec Ideal S1024x1024 .bf16) (n d : Fin 1024) :
    k0_pay37 x g w s (ix2 n d) = s (ix2 n d) + g (ix2 n 0) * made (fun k => x (ix2 n k)) (fun k d => w (ix2 k d)) d := by
  pointwise [k0_pay37]
  rfl

theorem pay35_at (n d : Fin 1024) : k0_pay35 (F := Ideal) (ix2 n d) = 0 := by pointwise [k0_pay35]

/-- One expert's step, of the other half. -/
theorem stepB_at (a : BitVec 32) (w : Vec Ideal S1x1024x1024 .f32) (s : FVec Ideal S1024x1024 .bf16) (e : Fin k0_t2_loop.trips) (n d : Fin 1024) :
    k0_pay37 (k0_pay19 tok) (k0_pay3 a (k0_pay20 u) (k0_pay21 v) (k0_pay25 r tok u v) (k0_pay26 r tok u v) 0#32 1#32 e) (k0_pay4 w) s (ix2 n d)
      = s (ix2 n d) + weight (fun k => tok (ix3 0 n k)) (fun k e => r (ix2 k e)) (Ideal.fptosi 32 (u (ix3 0 n 0))) (Ideal.fptosi 32 (v (ix3 0 n 0))) (num a e.val)
          * made (fun k => tok (ix3 0 n k)) (fun k d => w (ix3 0 k d)) d := by
  simp only [pay37_at, pay4_at, pay3_at, pay19_at, pay20_at, pay21_at, pay25_at, pay26_at, pay23_at, pay24_at]
  rfl

/-! ## The sums that travel, and what is packed -/

theorem pay8_at (a : Vec Ideal S1x1024x1024 .bf16) (s : FVec Ideal S1024x1024 .bf16) (n d : Fin 1024) :
    k0_pay8 a s (ix3 0 n d) = a (ix3 0 n d) + s (ix2 n d) := by
  pointwise [k0_pay8]

theorem pay40_at (a : Vec Ideal S1x1024x1024 .bf16) (s : FVec Ideal S1024x1024 .bf16) (n d : Fin 1024) :
    k0_pay40 (k0_pay9 a s) (ix3 0 n d) = a (ix3 0 n d) + s (ix2 n d) := by
  pointwise [k0_pay40, k0_pay9]

theorem pay38_at (s : FVec Ideal S1024x1024 .bf16) (n d : Fin 1024) : k0_pay38 s (ix3 0 n d) = s (ix2 n d) := by pointwise [k0_pay38]

theorem pay39_at (s : FVec Ideal S1024x1024 .bf16) (n d : Fin 1024) : k0_pay39 s (ix3 0 n d) = s (ix2 n d) := by pointwise [k0_pay39]

theorem pay1_at (s : FVec Ideal S1024x1024 .bf16) (n d : Fin 1024) : (k0_pay1 (F := Ideal) s (ix2 n d) : EReal) = s (ix2 n d) := by pointwise [k0_pay1]

theorem pay2_at (s : FVec Ideal S1024x1024 .bf16) (n d : Fin 1024) : (k0_pay2 (F := Ideal) s (ix2 n d) : EReal) = s (ix2 n d) := by pointwise [k0_pay2]

theorem pay29_at (x : Vec Ideal S1x1024x1024 .f32) (n d : Fin 1024) : k0_pay29 x (ix3 0 n d) = x (ix3 0 n d) := by
  pointwise [k0_pay29]

theorem pay32_at (x : Vec Ideal S1x1024x1024 .f32) (n d : Fin 1024) : k0_pay32 (k0_pay31 x) (ix3 0 n d) = x (ix3 0 n d) := by
  pointwise [k0_pay32, k0_pay31]

theorem pay30_at (x : Vec Ideal S1024x2 .i32) (n : Fin 1024) (j : Fin 2) : Ideal.fptosi 32 (k0_pay30 (F := Ideal) x (ix3 0 n j)) = x (ix2 n j) := by
  pointwise [k0_pay30]
  exact fptosi_toInt _

theorem pay33_at (x : Vec Ideal S1024x2 .i32) (n : Fin 1024) (j : Fin 2) : Ideal.fptosi 32 (k0_pay33 (F := Ideal) x (ix3 0 n j)) = x (ix2 n j) := by
  pointwise [k0_pay33]
  exact fptosi_toInt _

end Cert.Moe

end
-- ==== Proof.Reads.lean ====
/-
# What the kernel reads, at an index

The halves of the tokens, the experts, the router and the expert numbers, each read at an index, in terms of the arrays
held at launch.
-/
module

public import proofs.«01_k».proof.Proof.Back
public import Idealize.ShloMosaic.Lib.Pointwise

@[expose] public section

noncomputable section

namespace Cert.Moe

open Cert.KernelIdeal Cert.KernelIdeal.Gen

open Idealize.ShloMosaic
open Idealize.ShloMosaic.TcCoe

variable {F : FTy → Type} [FloatOps F] (m : (ℓ : Loc nD τ sig) → Buf (Elt F) ℓ)

/-- Row `n` of half `p`. -/
def half (p : Fin 2) (n : Fin 1024) : Fin 2048 := ⟨1024 * p.val + n.val, by have := p.isLt; have := n.isLt; omega⟩

omit [FloatOps F] in
theorem un_at {α : Type} (v : S1024x1024.Idx → α) (n d : Fin 1024) : un v (ix3 0 n d) = v (ix2 n d) := by
  unfold un
  refine congrArg v ((Equiv.symm_apply_eq _).mpr ?_)
  rw [ix2_eq_valueIdx, ix3_eq_valueIdx]
  exact (ValueIdx.reshapeEquiv_ix2_1ab _ n d).symm

theorem de_at {α : Type} (w : S1x1024x1024.Idx → α) (n d : Fin 1024) : de w (ix2 n d) = w (ix3 0 n d) := by
  unfold de
  refine congrArg w ?_
  rw [ix2_eq_valueIdx, ix3_eq_valueIdx]
  exact ValueIdx.reshapeEquiv_ix2_1ab _ n d

theorem xV_at (t : Dev nD) (p : Fin 2) (n k : Fin 1024) : xV m t p (ix2 n k) = m (t.tc.loc main_arg0) (ix2 (half p n) k) := by
  refine congrArg (m (t.tc.loc main_arg0)) (?_ : (rH p).emb (ix2 n k) = ix2 (half p n) k)
  refine @funext (Fin 2) (fun a => Fin (S2048x1024.size a)) _ _ fun a => Fin.ext ?_
  fin_cases a
  · show 1024 * p.val + 1 * n.val = 1024 * p.val + n.val; omega
  · show 0 + 1 * k.val = k.val; omega

theorem wV_at (c : Dev nD) (e : Fin 8) (k d : Fin 1024) : wV m c e (ix2 k d) = m (c.tc.loc main_arg3) (ix3 e k d) := by
  refine congrArg (m (c.tc.loc main_arg3)) (?_ : slotIdx (rE e) squeezes_S1x1024x1024_S1024x1024 (ix2 k d) = ix3 e k d)
  unfold slotIdx
  rw [ix2_eq_valueIdx, ValueIdx.reshapeEquiv_ix2_1ab]
  refine @funext (Fin 3) (fun a => Fin (S8x1024x1024.size a)) _ _ fun a => Fin.ext ?_
  fin_cases a
  · show e.val + 1 * 0 = e.val; omega
  · show 0 + 1 * k.val = k.val; omega
  · show 0 + 1 * d.val = d.val; omega

theorem rtV_at (c : Dev nD) (k : Fin 1024) (e : Fin 64) : rtV m c (ix2 k e) = m (c.tc.loc main_arg1) (ix2 k e) := by
  refine congrArg (m (c.tc.loc main_arg1)) ?_
  refine @funext (Fin 2) (fun a => Fin (S1024x64.size a)) _ _ fun a => Fin.ext ?_
  fin_cases a
  · show 0 + 1 * k.val = k.val; omega
  · show 0 + 1 * e.val = e.val; omega

theorem ixV_at (c : Dev nD) (q : Fin 2048) (j : Fin 2) : ixV m c (ix2 q j) = m (c.tc.loc main_arg2) (ix2 q j) := by
  refine congrArg (m (c.tc.loc main_arg2)) ?_
  refine @funext (Fin 2) (fun a => Fin (S2048x2.size a)) _ _ fun a => Fin.ext ?_
  fin_cases a
  · show 0 + 1 * q.val = q.val; omega
  · show 0 + 1 * j.val = j.val; omega

theorem ixH_at (t : Dev nD) (p : Fin 2) (n : Fin 1024) (j : Fin 2) : ixH m t p (ix2 n j) = m (t.tc.loc main_arg2) (ix2 (half p n) j) := by
  rw [← ixV_at m t (half p n) j]
  refine congrArg (ixV m t) ?_
  refine @funext (Fin 2) (fun a => Fin (S2048x2.size a)) _ _ fun a => Fin.ext ?_
  fin_cases a
  · show 1024 * p.val + 1 * n.val = 1024 * p.val + n.val; omega
  · show 0 + 1 * j.val = j.val; omega

theorem col_at (j : Fin 2) {α : Type} (w : S1x1024x2.Idx → α) (n : Fin 1024) : col j w (ix3 0 n 0) = w (ix3 0 n j) := by
  unfold col
  refine congrArg w ?_
  rw [ix3_eq_valueIdx]
  rfl

end Cert.Moe

end
-- ==== Proof.Value.lean ====
/-
# The kernel's result at one token

Each device's contribution to a token is the sum over its eight experts of the expert's weight times what it makes of the
token, whichever half the token is in. The partial sum that travels with a token's block has passed every device once
when it is home, so the result is the sum over all 64 experts.
-/
module

public import proofs.«01_k».proof.Proof.Pays
public import proofs.«01_k».proof.Proof.Reads

@[expose] public section

noncomputable section

namespace Cert.Moe

open Cert.KernelIdeal Cert.KernelIdeal.Gen

open Idealize.ShloMosaic
open Idealize.ShloMosaic.TcCoe

variable (m : (ℓ : Loc nD τ sig) → Buf (Elt Ideal) ℓ)

theorem num_eq (c : Dev nD) (e : Fin 8) : num (dw c) e.val = BitVec.ofNat 32 (c.val * 8 + e.val) := by
  revert c e; decide +kernel

/-- What expert `e` of device `c` adds to column `d` of token `q` of device `t`. -/
def term (c t : Dev nD) (q : Fin 2048) (e : Fin 8) (d : Fin 1024) : EReal :=
  weight (fun k => m (t.tc.loc main_arg0) (ix2 q k)) (fun k e => m (c.tc.loc main_arg1) (ix2 k e))
      (m (t.tc.loc main_arg2) (ix2 q 0)) (m (t.tc.loc main_arg2) (ix2 q 1)) (BitVec.ofNat 32 (c.val * 8 + e.val))
    * made (fun k => m (t.tc.loc main_arg0) (ix2 q k)) (fun k d => m (c.tc.loc main_arg3) (ix3 e k d)) d

/-! ## A device's contribution -/

theorem tokA_at (t : Dev nD) (n k : Fin 1024) : tokA m t (ix3 0 n k) = m (t.tc.loc main_arg0) (ix2 (half 0 n) k) := by
  unfold tokA; rw [pay29_at, un_at, xV_at]

theorem tokB_at (t : Dev nD) (n k : Fin 1024) : tokB m t (ix3 0 n k) = m (t.tc.loc main_arg0) (ix2 (half 1 n) k) := by
  unfold tokB; rw [pay32_at, un_at, xV_at]

theorem numA_at (t : Dev nD) (n : Fin 1024) (j : Fin 2) :
    Ideal.fptosi 32 (col j (numA m t) (ix3 0 n 0)) = m (t.tc.loc main_arg2) (ix2 (half 0 n) j) := by
  unfold numA; rw [col_at, pay30_at, ixH_at]

theorem numB_at (t : Dev nD) (n : Fin 1024) (j : Fin 2) :
    Ideal.fptosi 32 (col j (numB m t) (ix3 0 n 0)) = m (t.tc.loc main_arg2) (ix2 (half 1 n) j) := by
  unfold numB; rw [col_at, pay33_at, ixH_at]

theorem rtr_at (c : Dev nD) (k : Fin 1024) (e : Fin 64) : rtr m c (ix2 k e) = m (c.tc.loc main_arg1) (ix2 k e) := by
  unfold rtr; rw [pay28_at, rtV_at]

theorem trips_eq : k0_t2_loop.trips = 8 := trips2

theorem sumA_at (c t : Dev nD) (n d : Fin 1024) : ∀ (e : ℕ) (he : e ≤ 8),
    sumA m c t e (ix2 n d) = ∑ x : Fin e, term m c t (half 0 n) ⟨x.val, lt_of_lt_of_le x.isLt he⟩ d
  | 0, _ => by rw [Fin.sum_univ_zero]; exact pay34_at n d
  | e + 1, he => by
    have h : e < k0_t2_loop.trips := by rw [trips_eq]; omega
    rw [Fin.sum_univ_castSucc]
    unfold sumA
    rw [dif_pos h, stepA_at, sumA_at c t n d e (by omega)]
    simp only [tokA_at, rtr_at, numA_at, un_at, wV_at]
    rw [num_eq c ⟨e, by omega⟩]
    rfl

theorem sumB_at (c t : Dev nD) (n d : Fin 1024) : ∀ (e : ℕ) (he : e ≤ 8),
    sumB m c t e (ix2 n d) = ∑ x : Fin e, term m c t (half 1 n) ⟨x.val, lt_of_lt_of_le x.isLt he⟩ d
  | 0, _ => by rw [Fin.sum_univ_zero]; exact pay35_at n d
  | e + 1, he => by
    have h : e < k0_t2_loop.trips := by rw [trips_eq]; omega
    rw [Fin.sum_univ_castSucc]
    unfold sumB
    rw [dif_pos h, stepB_at, sumB_at c t n d e (by omega)]
    simp only [tokB_at, rtr_at, numB_at, un_at, wV_at]
    rw [num_eq c ⟨e, by omega⟩]
    rfl

/-- Device `c`'s share of column `d` of token `q` of device `t`. -/
def share (c t : Dev nD) (q : Fin 2048) (d : Fin 1024) : EReal := ∑ e : Fin 8, term m c t q e d

theorem ctA_at (c t : Dev nD) (n d : Fin 1024) : ctA m c t (ix2 n d) = share m c t (half 0 n) d := sumA_at m c t n d 8 le_rfl
theorem ctB_at (c t : Dev nD) (n d : Fin 1024) : ctB m c t (ix2 n d) = share m c t (half 1 n) d := sumB_at m c t n d 8 le_rfl

/-! ## Once round the ring -/

theorem accA_at (n d : Fin 1024) : ∀ (h : ℕ) (c : Dev nD),
    accA m c h (ix3 0 n d) = ∑ i ∈ Finset.range (h + 1), share m (bk c i) (bk c h) (half 0 n) d
  | 0, c => by rw [Finset.sum_range_one]; exact (pay38_at _ n d).trans (ctA_at m c c n d)
  | h + 1, c => by
    rw [Finset.sum_range_succ']
    unfold accA
    rw [pay8_at, accA_at n d h (prv c), ctA_at]
    simp only [bk_succ, bk_zero]

theorem accB_at (n d : Fin 1024) : ∀ (h : ℕ) (c : Dev nD),
    accB m c h (ix3 0 n d) = ∑ i ∈ Finset.range (h + 1), share m (fw c i) (fw c h) (half 1 n) d
  | 0, c => by rw [Finset.sum_range_one]; exact (pay39_at _ n d).trans (ctB_at m c c n d)
  | h + 1, c => by
    rw [Finset.sum_range_succ']
    unfold accB
    rw [pay40_at, accB_at n d h (nxt c), ctB_at]
    simp only [fw_succ, fw_zero]

theorem bk_home (c : Dev nD) : bk (prv c) 7 = c := by revert c; decide +kernel
theorem fw_home (c : Dev nD) : fw (nxt c) 7 = c := by revert c; decide +kernel
theorem bk_all (c : Dev nD) : Function.Bijective fun i : Fin 8 => bk (prv c) i.val := by revert c; decide +kernel
theorem fw_all (c : Dev nD) : Function.Bijective fun i : Fin 8 => fw (nxt c) i.val := by revert c; decide +kernel

theorem homeA_at (c : Dev nD) (n d : Fin 1024) : accA m (prv c) 7 (ix3 0 n d) = ∑ c' : Fin 8, share m c' c (half 0 n) d := by
  rw [accA_at, bk_home, Finset.sum_range]
  exact (bk_all c).sum_comp fun c' => share m c' c (half 0 n) d

theorem homeB_at (c : Dev nD) (n d : Fin 1024) : accB m (nxt c) 7 (ix3 0 n d) = ∑ c' : Fin 8, share m c' c (half 1 n) d := by
  rw [accB_at, fw_home, Finset.sum_range]
  exact (fw_all c).sum_comp fun c' => share m c' c (half 1 n) d

/-- The result: of every device its share. -/
theorem outV_at (c : Dev nD) (q : Fin 2048) (d : Fin 1024) : outV m c (ix2 q d) = ∑ c' : Fin 8, share m c' c q d := by
  unfold outV
  by_cases h : q.val < 1024
  · have hq : half 0 ⟨q.val, h⟩ = q := Fin.ext (by show 1024 * 0 + q.val = q.val; omega)
    rw [dif_pos (show ((ix2 q d : S2048x1024.Idx) 0 : Fin 2048).val < 1024 from h)]
    show (k0_pay1 (F := Ideal) (de (accA m (prv c) 7)) (ValueIdx.ix2 (⟨q.val, h⟩ : Fin 1024) d) : EReal) = _
    rw [← ix2_eq_valueIdx]
    refine (pay1_at _ _ _).trans ?_
    rw [de_at]
    exact (homeA_at m c ⟨q.val, h⟩ d).trans (by rw [hq])
  · have hl : q.val - 1024 < 1024 := by have := q.isLt; omega
    have hq : half 1 ⟨q.val - 1024, hl⟩ = q := Fin.ext (by show 1024 * 1 + (q.val - 1024) = q.val; omega)
    rw [dif_neg (show ¬ ((ix2 q d : S2048x1024.Idx) 0 : Fin 2048).val < 1024 from h)]
    show (k0_pay2 (F := Ideal) (de (accB m (nxt c) 7)) (ValueIdx.ix2 (⟨q.val - 1024, hl⟩ : Fin 1024) d) : EReal) = _
    rw [← ix2_eq_valueIdx]
    refine (pay2_at _ _ _).trans ?_
    rw [de_at]
    exact (homeB_at m c ⟨q.val - 1024, hl⟩ d).trans (by rw [hq])

end Cert.Moe

end
-- ==== Proof.RefValue.lean ====
/-
# The reference's result at one token

The reference's stored result at a row and a column is the layer's formula (`Proof/Formula.lean`): over all 64 experts, the
expert's weight times what it makes of the token.
-/
module

public import proofs.«01_k».proof.Proof.Formula
public import proofs.«01_k».proof.Proof.Gen.ReferenceIdeal.Run
public import Idealize.ShloMosaic.Lib.Pointwise

@[expose] public section

noncomputable section

namespace Cert.Moe

open Idealize.ShloMosaic
open Idealize.ShloMosaic.TcCoe

open Cert.ReferenceIdeal Cert.ReferenceIdeal.Gen Cert.ReferenceIdeal.Value

/-- The one-hot entry: one where the numbers agree. -/
theorem hot_eq (a b : BitVec 32) : FloatOps.uitofp (F := Ideal) FTy.f32 (IntOp.cmpi .eq a b) = if a = b then (1 : EReal) else 0 := by
  show ((((IntOp.cmpi .eq a b).toNat : ℕ) : ℝ) : EReal) = _
  unfold IntOp.cmpi
  by_cases h : a = b
  · subst h; simp
  · have h2 : (a == b) = false := by simp [h]
    simp [h, h2]

theorem ref_at (m : (ℓ : Loc nD τ sig) → Buf (Elt Ideal) ℓ) (c : Dev nD) (n : Fin 16384) (d : Fin 1024) :
    res_main_v27 m c (ix2 n d)
      = layer (fun k => m (c.tc.loc main_arg0) (ix2 n k)) (fun k e => m (c.tc.loc main_arg1) (ix2 k e))
          (m (c.tc.loc main_arg2) (ix2 n 0)) (m (c.tc.loc main_arg2) (ix2 n 1)) (fun e k d => m (c.tc.loc main_arg3) (ix3 e k d)) d := by
  pointwise [res_main_v27]
  unfold layer
  refine Finset.sum_congr (M := EReal) rfl fun e _ => ?_
  simp only [hot_eq, ite_mul, mul_ite, one_mul, mul_one, zero_mul, mul_zero, Fin.sum_univ_two]
  rfl

end Cert.Moe

end
-- ==== Proof.Whole.lean ====
/-
# The device's result is its block of the reference's

Where the devices hold blocks of the reference's arrays, the sum over the devices of their shares of a token is the
layer's sum over all 64 experts, so what device `c` leaves is block `c` of what the reference leaves.
-/
module

public import proofs.«01_k».proof.Proof.Value
public import proofs.«01_k».proof.Proof.RefValue
public import proofs.«01_k».proof.Proof.Frames
public import proofs.«01_k».proof.Defs
public import Idealize.ShloMosaic.Lib.Layout

@[expose] public section

noncomputable section

namespace Cert.Moe

open Idealize.ShloMosaic
open Idealize.ShloMosaic.TcCoe

open Cert.KernelIdeal Cert.KernelIdeal.Gen

/-- Token `q` of device `c` in the whole array, and expert `e` of device `c`. -/
def tokAt (c : Fin 8) (q : Fin 2048) : Fin 16384 := ⟨c.val * 2048 + q.val, by have := c.isLt; have := q.isLt; omega⟩
def expAt (c : Fin 8) (e : Fin 8) : Fin 64 := ⟨c.val * 8 + e.val, by have := c.isLt; have := e.isLt; omega⟩

section
variable {α : Type}

theorem block_x (c : Fin 8) (v : (⟨2, ![16384, 1024]⟩ : Shape).Idx → α) (q : Fin 2048) (k : Fin 1024) :
    Layout.block ⟨2, ![2048, 1024]⟩ ⟨2, ![16384, 1024]⟩ 0 8 c v (by decide) (ix2 q k) = v (ix2 (tokAt c q) k) := by
  rw [Layout.block_apply]
  refine congrArg v (@funext (Fin 2) (fun a => Fin ((⟨2, ![16384, 1024]⟩ : Shape).size a)) _ _ fun a => Fin.ext ?_)
  fin_cases a <;> rfl

theorem block_i (c : Fin 8) (v : (⟨2, ![16384, 2]⟩ : Shape).Idx → α) (q : Fin 2048) (j : Fin 2) :
    Layout.block ⟨2, ![2048, 2]⟩ ⟨2, ![16384, 2]⟩ 0 8 c v (by decide) (ix2 q j) = v (ix2 (tokAt c q) j) := by
  rw [Layout.block_apply]
  refine congrArg v (@funext (Fin 2) (fun a => Fin ((⟨2, ![16384, 2]⟩ : Shape).size a)) _ _ fun a => Fin.ext ?_)
  fin_cases a <;> rfl

theorem block_w (c : Fin 8) (v : (⟨3, ![64, 1024, 1024]⟩ : Shape).Idx → α) (e : Fin 8) (k d : Fin 1024) :
    Layout.block ⟨3, ![8, 1024, 1024]⟩ ⟨3, ![64, 1024, 1024]⟩ 0 8 c v (by decide) (ix3 e k d) = v (ix3 (expAt c e) k d) := by
  rw [Layout.block_apply]
  refine congrArg v (@funext (Fin 3) (fun a => Fin ((⟨3, ![64, 1024, 1024]⟩ : Shape).size a)) _ _ fun a => Fin.ext ?_)
  fin_cases a <;> rfl

end

variable (m : (ℓ : Loc nD τ sig) → Buf (Elt Ideal) ℓ)

/-- The shares of all the devices, where they hold blocks of the whole arrays. -/
theorem shares_eq (X : (⟨2, ![16384, 1024]⟩ : Shape).Idx → EReal) (R : (⟨2, ![1024, 64]⟩ : Shape).Idx → EReal)
    (I : (⟨2, ![16384, 2]⟩ : Shape).Idx → BitVec 32) (W : (⟨3, ![64, 1024, 1024]⟩ : Shape).Idx → EReal)
    (hX : ∀ c : Dev nD, m (c.tc.loc main_arg0) = Layout.block ⟨2, ![2048, 1024]⟩ ⟨2, ![16384, 1024]⟩ 0 8 c X)
    (hR : ∀ c : Dev nD, m (c.tc.loc main_arg1) = R)
    (hI : ∀ c : Dev nD, m (c.tc.loc main_arg2) = Layout.block ⟨2, ![2048, 2]⟩ ⟨2, ![16384, 2]⟩ 0 8 c I)
    (hW : ∀ c : Dev nD, m (c.tc.loc main_arg3) = Layout.block ⟨3, ![8, 1024, 1024]⟩ ⟨3, ![64, 1024, 1024]⟩ 0 8 c W)
    (c : Dev nD) (q : Fin 2048) (d : Fin 1024) :
    (∑ c' : Fin 8, share m c' c q d)
      = layer (fun k => X (ix2 (tokAt c q) k)) (fun k e => R (ix2 k e)) (I (ix2 (tokAt c q) 0)) (I (ix2 (tokAt c q) 1)) (fun e k d => W (ix3 e k d)) d := by
  unfold layer
  refine Eq.trans ?_ (Fin.sum_univ_tiles 8 8 (by decide : 8 * 8 = 64) _).symm
  refine Finset.sum_congr (M := EReal) rfl fun c' _ => ?_
  unfold share
  refine Finset.sum_congr (M := EReal) rfl fun e _ => ?_
  unfold term
  rw [hX c, hR c', hI c, hW c']
  simp only [block_x, block_i, block_w]
  rfl

/-- What the result array holds at the end. -/
theorem final_out (ρ : Dev nD → PrngReg) (c : Dev nD) : (dats m ρ 0 c).arrAt 2 cfg0.N = outV m c := by
  have hz : (fun a => (win0_2.index (0 : Fin 1)) a * main_v1.ty.shape.size a) = fun _ => 0 :=
    funext fun a => by fin_cases a <;> decide
  have hr := fun f => Memref.read_access_unit_zero (Elt Ideal) main_v1 hz (fun a => by fin_cases a <;> decide) f
  have ho : (win0_2.blk (0 : Fin 1)).view.read (Elt Ideal) ((dats m ρ 0 c).arrAt 2 cfg0.N) = outV m c := by
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (hr _).symm.trans ho

/-- The value claim. -/
theorem value : Cert.algebraic_KernelIdeal_ReferenceIdeal := by
  intro m ρ m' ρ' _ hagree
  refine ⟨Cert.ReferenceIdeal.Value.res_main_v27 m' 0, ?_, ?_⟩
  · refine (θ_run defs _ _).mono (fun r h c => ⟨?_, kept_of m ρ h.1 c⟩) (run_main (F := Ideal) m ρ)
    refine ((h.1 c).1 2).trans ((final_out m ρ c).trans ?_)
    refine @funext S2048x1024.Idx (fun _ => EReal) _ _ fun y => ?_
    rw [eq_ix2 y]
    refine (outV_at m c _ _).trans ?_
    refine (shares_eq m _ _ _ _ (fun c => (hagree c).1) (fun c => (hagree c).2.1) (fun c => (hagree c).2.2.1) (fun c => (hagree c).2.2.2) c _ _).trans ?_
    refine Eq.trans ?_ (block_x c _ _ _).symm
    exact (ref_at m' 0 _ _).symm
  · exact (θ_run Cert.ReferenceIdeal.defs _ _).mono (fun _ h => h 0) (Cert.ReferenceIdeal.Value.run (F := Ideal) m' ρ')

end Cert.Moe

end
-- ==== Proof.lean ====
/-
# The certificate

The whole program of eight devices is run once, at any float values (`Proof/Launch.lean` `run_main`); the frames read it at
machine words and at the extended reals, the value claim
reads the result (`Proof/Whole.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Whole
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  Cert.Moe.defs_same ▸ Cert.Moe.run_kept (F := Bits) m ρ

theorem frame_ideal : Cert.quiescent_KernelIdeal := fun m ρ _ =>
  Cert.Moe.run_kept (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.Moe.value⟩

end Cert.Proof

end
